-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_1)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_1) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S2048x4096 : Shape := ⟨2, ![2048, 4096]⟩
abbrev S8192x8 : Shape := ⟨2, ![8192, 8]⟩
abbrev S8192 : Shape := ⟨1, ![8192]⟩
abbrev S1024x8 : Shape := ⟨2, ![1024, 8]⟩
abbrev S1024 : Shape := ⟨1, ![1024]⟩
abbrev S_ : Shape := ⟨0, ![]⟩

class Facts : Prop where
  bcast_S_S8192x8 : S_.BroadcastsInDim S8192x8 (![] : Fin 0 → Fin S8192x8.rank)
  reducesTo_S8192x8_S_d0_1 : S8192x8.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_

variable [Facts]

def fn {F : FTy → Type} [FloatOps F] (main_arg0 : FVec F S2048x4096 .f32) (main_arg1 : IVec S8192x8 32) (main_arg2 : FVec F S8192x8 .f32) (main_arg3 : FVec F S8192 .f32) (main_arg4 : FVec F S1024x8 .f32) (main_arg5 : FVec F S1024 .f32) : IVec S_ 1 :=
  let main_c : IVec S_ 32 := constantI S_ 32 0#32
  let main_v0 : IVec S8192x8 32 := broadcastInDim S8192x8 ![] bcast_S_S8192x8 main_c
  let main_v1 : IVec S8192x8 1 := cmpi .sge main_arg1 main_v0
  let main_c_0 : IVec S_ 32 := constantI S_ 32 4096#32
  let main_v2 : IVec S8192x8 32 := broadcastInDim S8192x8 ![] bcast_S_S8192x8 main_c_0
  let main_v3 : IVec S8192x8 1 := cmpi .slt main_arg1 main_v2
  let main_v4 : IVec S8192x8 1 := andi main_v1 main_v3
  let main_c_1 : IVec S_ 1 := constantI S_ 1 1#1
  let main_v5 : IVec S_ 1 := (fun x v => Host.reduce IntOp.andi x v reducesTo_S8192x8_S_d0_1 h_S_) main_v4 main_c_1
  let main_v6 : FVec F S2048x4096 .f32 := Host.absf main_arg0
  let main_cst : FVec F S_ .f32 := constant S_ .f32 0x7F800000#32
  let main_v7 : FVec F S2048x4096 .f32 := broadcastInDim S2048x4096 ![] bcast_S_S2048x4096 main_cst
  let main_v8 : IVec S2048x4096 1 := cmpf .olt main_v6 main_v7
  let main_c_2 : IVec S_ 1 := constantI S_ 1 1#1
  let main_v9 : IVec S_ 1 := (fun x v => Host.reduce IntOp.andi x v reducesTo_S2048x4096_S_d0_1 h_S_) main_v8 main_c_2
  let main_v10 : IVec S_ 1 := andi main_v5 main_v9
  let main_v11 : FVec F S8192x8 .f32 := Host.absf main_arg2
  let main_cst_3 : FVec F S_ .f32 := constant S_ .f32 0x7F800000#32
  let main_v12 : FVec F S8192x8 .f32 := broadcastInDim S8192x8 ![] bcast_S_S8192x8 main_cst_3
  let main_v13 : IVec S8192x8 1 := cmpf .olt main_v11 main_v12
  let main_c_4 : IVec S_ 1 := constantI S_ 1 1#1
  let main_v14 : IVec S_ 1 := (fun x v => Host.reduce IntOp.andi x v reducesTo_S8192x8_S_d0_1 h_S_) main_v13 main_c_4
  let main_v15 : IVec S_ 1 := andi main_v10 main_v14
  main_v15
-- ==== Kernel.lean ====
abbrev S2048x4096 : Shape := ⟨2, ![2048, 4096]⟩
abbrev S8192x8 : Shape := ⟨2, ![8192, 8]⟩
abbrev S8192 : Shape := ⟨1, ![8192]⟩
abbrev S1024x8 : Shape := ⟨2, ![1024, 8]⟩
abbrev S1024 : Shape := ⟨1, ![1024]⟩
abbrev S256x4096 : Shape := ⟨2, ![256, 4096]⟩
abbrev S8x8192 : Shape := ⟨2, ![8, 8192]⟩
abbrev S8x16x512 : Shape := ⟨3, ![8, 16, 512]⟩
abbrev S16x8x512 : Shape := ⟨3, ![16, 8, 512]⟩
abbrev S16x1x512 : Shape := ⟨3, ![16, 1, 512]⟩
abbrev S16x1x64 : Shape := ⟨3, ![16, 1, 64]⟩
abbrev S2048x8192 : Shape := ⟨2, ![2048, 8192]⟩
abbrev S2048x1024 : Shape := ⟨2, ![2048, 1024]⟩
abbrev S1x8x512 : Shape := ⟨3, ![1, 8, 512]⟩
abbrev S1x1x512 : Shape := ⟨3, ![1, 1, 512]⟩
abbrev S1x1x64 : Shape := ⟨3, ![1, 1, 64]⟩
abbrev S2048x512 : Shape := ⟨2, ![2048, 512]⟩
abbrev S2048x128 : Shape := ⟨2, ![2048, 128]⟩
abbrev S2x4096x512 : Shape := ⟨3, ![2, 4096, 512]⟩
abbrev S1x4096x512 : Shape := ⟨3, ![1, 4096, 512]⟩
abbrev S4096x512 : Shape := ⟨2, ![4096, 512]⟩
abbrev S1x512 : Shape := ⟨2, ![1, 512]⟩
abbrev S512x64 : Shape := ⟨2, ![512, 64]⟩
abbrev S2048x64 : Shape := ⟨2, ![2048, 64]⟩
abbrev S1x64 : Shape := ⟨2, ![1, 64]⟩
abbrev S512 : Shape := ⟨1, ![512]⟩
abbrev S2048x1024x8 : Shape := ⟨3, ![2048, 1024, 8]⟩

abbrev nBuf : Space → Nat
  | .hbm => 21
  | .vmem => 20
  | .smem => 0
  | _ => 0

abbrev bufTy : (tb : Table) → Fin (tcTables nBuf tb) → BufTy
  | .hbm, ⟨0, _⟩ => ⟨S2048x4096, .f32⟩
  | .hbm, ⟨1, _⟩ => ⟨S8192x8, .i32⟩
  | .hbm, ⟨2, _⟩ => ⟨S8192x8, .f32⟩
  | .hbm, ⟨3, _⟩ => ⟨S8192, .f32⟩
  | .hbm, ⟨4, _⟩ => ⟨S1024x8, .f32⟩
  | .hbm, ⟨5, _⟩ => ⟨S1024, .f32⟩
  | .hbm, ⟨6, _⟩ => ⟨S2048x4096, .bf16⟩
  | .hbm, ⟨7, _⟩ => ⟨S8192x8, .i16⟩
  | .hbm, ⟨8, _⟩ => ⟨S8x8192, .i16⟩
  | .hbm, ⟨9, _⟩ => ⟨S8x16x512, .i16⟩
  | .hbm, ⟨10, _⟩ => ⟨S16x8x512, .i16⟩
  | .hbm, ⟨11, _⟩ => ⟨S8192x8, .bf16⟩
  | .hbm, ⟨12, _⟩ => ⟨S8x8192, .bf16⟩
  | .hbm, ⟨13, _⟩ => ⟨S8x16x512, .bf16⟩
  | .hbm, ⟨14, _⟩ => ⟨S16x8x512, .bf16⟩
  | .hbm, ⟨15, _⟩ => ⟨S16x1x512, .f32⟩
  | .hbm, ⟨16, _⟩ => ⟨S16x1x512, .f32⟩
  | .hbm, ⟨17, _⟩ => ⟨S16x1x64, .f32⟩
  | .hbm, ⟨18, _⟩ => ⟨S2048x8192, .f32⟩
  | .hbm, ⟨19, _⟩ => ⟨S2048x1024, .f32⟩
  | .hbm, ⟨20, _⟩ => ⟨S2048x1024x8, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x8x512, .i16⟩
  | .local _ .vmem, ⟨5, _⟩ => ⟨S1x8x512, .i16⟩
  | .local _ .vmem, ⟨6, _⟩ => ⟨S1x8x512, .bf16⟩
  | .local _ .vmem, ⟨7, _⟩ => ⟨S1x8x512, .bf16⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x64, .f32⟩
  | .local _ .vmem, ⟨13, _⟩ => ⟨S1x1x64, .f32⟩
  | .local _ .vmem, ⟨14, _⟩ => ⟨S2048x4096, .bf16⟩
  | .local _ .vmem, ⟨15, _⟩ => ⟨S2048x512, .f32⟩
  | .local _ .vmem, ⟨16, _⟩ => ⟨S2048x512, .f32⟩
  | .local _ .vmem, ⟨17, _⟩ => ⟨S2048x128, .f32⟩
  | .local _ .vmem, ⟨18, _⟩ => ⟨S2048x128, .f32⟩
  | .local _ .vmem, ⟨19, _⟩ => ⟨S2x4096x512, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![17], ![false]⟩

def k1_off1 (i : grid1.Coords) : Fin 3 → Nat :=
  let arg0 : BitVec 32 := BitVec.ofNat 32 (i 0).val
  let c1_i32 : BitVec 32 := 1#32
  let v2 : BitVec 32 := Scalar.addi arg0 c1_i32
  let c2_i32 : BitVec 32 := 2#32
  let c0_i32 : BitVec 32 := 0#32
  let v3 : BitVec 1 := Scalar.cmpi .eq c2_i32 c0_i32
  let c1_i32_1 : BitVec 32 := 1#32
  let v4 : BitVec 32 := Scalar.select v3 c1_i32_1 c2_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : Index := Scalar.indexCast v12
  let c0_5 : Index := 0#32
  let c0_6 : Index := 0#32
  ![v13.toNat, 0, 0]
def k1_off2 (i : grid1.Coords) : Fin 3 → Nat :=
  let arg0 : BitVec 32 := BitVec.ofNat 32 (i 0).val
  let c2_i32_146 : BitVec 32 := 2#32
  let c0_i32_147 : BitVec 32 := 0#32
  let v371 : BitVec 1 := Scalar.cmpi .eq c2_i32_146 c0_i32_147
  let c1_i32_148 : BitVec 32 := 1#32
  let v372 : BitVec 32 := Scalar.select v371 c1_i32_148 c2_i32_146
  let v373 : BitVec 32 := Scalar.remsi arg0 v372
  let c0_i32_150 : BitVec 32 := 0#32
  let v375 : BitVec 1 := Scalar.cmpi .slt v373 c0_i32_150
  let c0_i32_151 : BitVec 32 := 0#32
  let v376 : BitVec 1 := Scalar.cmpi .slt v372 c0_i32_151
  let v377 : BitVec 1 := Scalar.xori v375 v376
  let c0_i32_149 : BitVec 32 := 0#32
  let v374 : BitVec 1 := Scalar.cmpi .ne v373 c0_i32_149
  let v378 : BitVec 1 := Scalar.andi v377 v374
  let v379 : BitVec 32 := Scalar.addi v373 v372
  let v380 : BitVec 32 := Scalar.select v378 v379 v373
  let v381 : Index := Scalar.indexCast v380
  let c0_152 : Index := 0#32
  let c0_153 : Index := 0#32
  ![v381.toNat, 0, 0]
def cc1_transform_0 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_3 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_4 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_7 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let v2 : BitVec 32 := Scalar.divsi v1 c2_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![c0_i32_6.toNat, v18.toNat]

abbrev stage1_0 : Fin 2 → Memref sig .tc .vmem S1x8x512 .i16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2048x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S2048x4096 : Shape := ⟨2, ![2048, 4096]⟩
abbrev S8192x8 : Shape := ⟨2, ![8192, 8]⟩
abbrev S8192 : Shape := ⟨1, ![8192]⟩
abbrev S1024x8 : Shape := ⟨2, ![1024, 8]⟩
abbrev S1024 : Shape := ⟨1, ![1024]⟩
abbrev S_ : Shape := ⟨0, ![]⟩
abbrev S8192x8x1 : Shape := ⟨3, ![8192, 8, 1]⟩
abbrev S1 : Shape := ⟨1, ![1]⟩
abbrev S1x1x1 : Shape := ⟨3, ![1, 1, 1]⟩
abbrev S2048x8192x8 : Shape := ⟨3, ![2048, 8192, 8]⟩
abbrev S1x8192x8 : Shape := ⟨3, ![1, 8192, 8]⟩
abbrev S2048x8192 : Shape := ⟨2, ![2048, 8192]⟩
abbrev S1x8192 : Shape := ⟨2, ![1, 8192]⟩
abbrev S2048x1024x8 : Shape := ⟨3, ![2048, 1024, 8]⟩
abbrev S1x1024x8 : Shape := ⟨3, ![1, 1024, 8]⟩
abbrev S2048x1024 : Shape := ⟨2, ![2048, 1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8192x8, .i32⟩
  | .hbm, ⟨2, _⟩ => ⟨S8192x8, .f32⟩
  | .hbm, ⟨3, _⟩ => ⟨S8192, .f32⟩
  | .hbm, ⟨4, _⟩ => ⟨S1024x8, .f32⟩
  | .hbm, ⟨5, _⟩ => ⟨S1024, .f32⟩
  | .hbm, ⟨6, _⟩ => ⟨S_, .i32⟩
  | .hbm, ⟨7, _⟩ => ⟨S8192x8, .i32⟩
  | .hbm, ⟨8, _⟩ => ⟨S8192x8, .i1⟩
  | .hbm, ⟨9, _⟩ => ⟨S_, .i32⟩
  | .hbm, ⟨10, _⟩ => ⟨S8192x8, .i32⟩
  | .hbm, ⟨11, _⟩ => ⟨S8192x8, .i32⟩
  | .hbm, ⟨12, _⟩ => ⟨S8192x8, .i32⟩
  | .hbm, ⟨13, _⟩ => ⟨S8192x8x1, .i32⟩
  | .hbm, ⟨14, _⟩ => ⟨S1, .i32⟩
  | .hbm, ⟨15, _⟩ => ⟨S_, .i32⟩
  | .hbm, ⟨16, _⟩ => ⟨S8192x8x1, .i32⟩
  | .hbm, ⟨17, _⟩ => ⟨S8192x8x1, .i1⟩
  | .hbm, ⟨18, _⟩ => ⟨S1x1x1, .i32⟩
  | .hbm, ⟨19, _⟩ => ⟨S8192x8x1, .i32⟩
  | .hbm, ⟨20, _⟩ => ⟨S8192x8x1, .i1⟩
  | .hbm, ⟨21, _⟩ => ⟨S8192x8x1, .i1⟩
  | .hbm, ⟨22, _⟩ => ⟨S_, .i1⟩
  | .hbm, ⟨23, _⟩ => ⟨S8192x8, .i1⟩
  | .hbm, ⟨24, _⟩ => ⟨S2048x8192x8, .f32⟩
  | .hbm, ⟨25, _⟩ => ⟨S2048x8192x8, .i1⟩
  | .hbm, ⟨26, _⟩ => ⟨S_, .f32⟩
  | .hbm, ⟨27, _⟩ => ⟨S2048x8192x8, .f32⟩
  | .hbm, ⟨28, _⟩ => ⟨S2048x8192x8, .f32⟩
  | .hbm, ⟨29, _⟩ => ⟨S1x8192x8, .f32⟩
  | .hbm, ⟨30, _⟩ => ⟨S2048x8192x8, .f32⟩
  | .hbm, ⟨31, _⟩ => ⟨S2048x8192x8, .f32⟩
  | .hbm, ⟨32, _⟩ => ⟨S_, .f32⟩
  | .hbm, ⟨33, _⟩ => ⟨S2048x8192, .f32⟩
  | .hbm, ⟨34, _⟩ => ⟨S1x8192, .f32⟩
  | .hbm, ⟨35, _⟩ => ⟨S2048x8192, .f32⟩
  | .hbm, ⟨36, _⟩ => ⟨S2048x8192, .f32⟩
  | .hbm, ⟨37, _⟩ => ⟨S_, .f32⟩
  | .hbm, ⟨38, _⟩ => ⟨S2048x8192, .f32⟩
  | .hbm, ⟨39, _⟩ => ⟨S2048x8192, .i1⟩
  | .hbm, ⟨40, _⟩ => ⟨S_, .f32⟩
  | .hbm, ⟨41, _⟩ => ⟨S2048x8192, .f32⟩
  | .hbm, ⟨42, _⟩ => ⟨S2048x8192, .f32⟩
  | .hbm, ⟨43, _⟩ => ⟨S2048x8192, .f32⟩
  | .hbm, ⟨44, _⟩ => ⟨S2048x1024x8, .f32⟩
  | .hbm, ⟨45, _⟩ => ⟨S1x1024x8, .f32⟩
  | .hbm, ⟨46, _⟩ => ⟨S2048x1024x8, .f32⟩
  | .hbm, ⟨47, _⟩ => ⟨S2048x1024x8, .f32⟩
  | .hbm, ⟨48, _⟩ => ⟨S_, .f32⟩
  | .hbm, ⟨49, _⟩ => ⟨S2048x1024, .f32⟩
  | .hbm, ⟨50, _⟩ => ⟨S1x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S2048x1024, .f32⟩
  | .hbm, ⟨55, _⟩ => ⟨S2048x1024, .i1⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_cst_1 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_2 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.TableIdle
public import Idealize.ShloMosaic.Lib.Pipeline.Value
public import Idealize.ShloMosaic.Lib.VecWindow
public import Idealize.ShloMosaic.Lib.Tactic

@[expose] public section

set_option maxRecDepth 16384

noncomputable section

namespace Cert.Dend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer held by a whole memref's elements at contents that read as `x` is the buffer held at the values `x`. -/
theorem rep_of_read (c : Dev nD) {s : Shape} {e : EltTy} (M : Memref sig .tc .vmem s e) (g : M.view.ty.Contents (Elt F)) (x : Vec F s e)
    (h : M.view.read (Elt F) g = x) :
    (M.view.loc (c : Thread nD τ) ↦[M.view.set]{fullShare} g : sProp 𝕄) ⊢ M.view.loc (c : Thread nD τ) ↦[M.view.set]{fullShare} M.view.rep x := by
  subst h
  exact pointsTo_rep_entails _ _ _ _

/-- The matrix of a tile from its eight index rows and its eight weight rows: the duplicates of a row are folded into its first occurrence, then the rows are laid over one another, first row on top. -/
def selMat (v66 v69 v72 v75 v78 v81 v84 v87 : IVec S1x512 16) (v90 v93 v96 v99 v102 v105 v108 v111 : FVec F S1x512 .bf16) : FVec F S4096x512 .bf16 :=
  let v128 := k1_pay25 v66 v69 v72 v90 v93 v96
  let v135 := k1_pay28 v66 v69 v72 v93 v96
  let v159 := k1_pay37 v66 v69 v72 v75 v96 v99 (k1_pay29 v66 v69 v72) (k1_pay30 (F := F))
  let v162 := k1_pay38 v66 v69 v72 v75 v99
  let v169 := k1_pay41 v66 v75 v78 v99 v102 v128
  let v176 := k1_pay44 v66 v69 v75 v78 v99 v102 v135
  let v177 := k1_pay45 v66 v69 v78
  let v180 := k1_pay46 v66 v69 v72 v78
  let v182 := k1_pay47 v66 v69 v72 v78 v102
  let v200 := k1_pay52 v66 v81 v105 v169
  let v207 := k1_pay55 v66 v69 v81 v105 v176
  let v214 := k1_pay58 v66 v69 v72 v81 v105 v159 v182
  let v221 := k1_pay61 v66 v69 v72 v75 v78 v81 v102 v105 v162 v177 v180
  let v222 := k1_pay62 v66 v69 v72 v75 v81
  let v225 := k1_pay63 v66 v69 v72 v75 v78 v81
  let v228 := k1_pay64 v66 v69 v72 v75 v78 v81 v102 v105 v177 v180
  let v238 := k1_pay67 v66 v84 v108 v200
  let v245 := k1_pay70 v66 v69 v84 v108 v207
  let v252 := k1_pay73 v66 v69 v72 v84 v108 v214
  let v259 := k1_pay76 v66 v69 v72 v75 v84 v108 v221
  let v266 := k1_pay79 v66 v69 v72 v75 v78 v84 v108 v228
  let v273 := k1_pay82 v66 v69 v72 v75 v78 v81 v84 v105 v108 v222 v225
  let v274 := k1_pay83 v66 v69 v72 v75 v78 v81 v84
  k1_pay105 v66 v69 v72 v75 v78 v81 v84 v87 v111 (k1_pay84 v108 v274) (k1_pay87 v66 v87 v111 v238) (k1_pay90 v66 v69 v87 v111 v245)
    (k1_pay93 v66 v69 v72 v87 v111 v252) (k1_pay96 v66 v69 v72 v75 v87 v111 v259) (k1_pay99 v66 v69 v72 v75 v78 v87 v111 v266)
    (k1_pay102 v66 v69 v72 v75 v78 v81 v87 v111 v273) (k1_pay103 v66 v69 v72 v75 v78 v81 v87) (k1_pay104 v84 v87)

/-- The tile's matrix from the tile of indices and the tile of weights. -/
def matOf (I : Vec F S1x8x512 .i16) (W : Vec F S1x8x512 .bf16) : FVec F S4096x512 .bf16 :=
  selMat
    (k1_pay5 (F := F) (VecWindow.window (s := S1x8x512) I ![0, 0, 0] S1x1x512.size inb_S1x8x512_S1x1x512_0_0_0))
    (k1_pay6 (F := F) (VecWindow.window (s := S1x8x512) I ![0, 1, 0] S1x1x512.size inb_S1x8x512_S1x1x512_0_1_0))
    (k1_pay7 (F := F) (VecWindow.window (s := S1x8x512) I ![0, 2, 0] S1x1x512.size inb_S1x8x512_S1x1x512_0_2_0))
    (k1_pay8 (F := F) (VecWindow.window (s := S1x8x512) I ![0, 3, 0] S1x1x512.size inb_S1x8x512_S1x1x512_0_3_0))
    (k1_pay9 (F := F) (VecWindow.window (s := S1x8x512) I ![0, 4, 0] S1x1x512.size inb_S1x8x512_S1x1x512_0_4_0))
    (k1_pay10 (F := F) (VecWindow.window (s := S1x8x512) I ![0, 5, 0] S1x1x512.size inb_S1x8x512_S1x1x512_0_5_0))
    (k1_pay11 (F := F) (VecWindow.window (s := S1x8x512) I ![0, 6, 0] S1x1x512.size inb_S1x8x512_S1x1x512_0_6_0))
    (k1_pay12 (F := F) (VecWindow.window (s := S1x8x512) I ![0, 7, 0] S1x1x512.size inb_S1x8x512_S1x1x512_0_7_0))
    (k1_pay13 (VecWindow.window (s := S1x8x512) W ![0, 0, 0] S1x1x512.size inb_S1x8x512_S1x1x512_0_0_0))
    (k1_pay14 (VecWindow.window (s := S1x8x512) W ![0, 1, 0] S1x1x512.size inb_S1x8x512_S1x1x512_0_1_0))
    (k1_pay15 (VecWindow.window (s := S1x8x512) W ![0, 2, 0] S1x1x512.size inb_S1x8x512_S1x1x512_0_2_0))
    (k1_pay16 (VecWindow.window (s := S1x8x512) W ![0, 3, 0] S1x1x512.size inb_S1x8x512_S1x1x512_0_3_0))
    (k1_pay17 (VecWindow.window (s := S1x8x512) W ![0, 4, 0] S1x1x512.size inb_S1x8x512_S1x1x512_0_4_0))
    (k1_pay18 (VecWindow.window (s := S1x8x512) W ![0, 5, 0] S1x1x512.size inb_S1x8x512_S1x1x512_0_5_0))
    (k1_pay19 (VecWindow.window (s := S1x8x512) W ![0, 6, 0] S1x1x512.size inb_S1x8x512_S1x1x512_0_6_0))
    (k1_pay20 (VecWindow.window (s := S1x8x512) W ![0, 7, 0] S1x1x512.size inb_S1x8x512_S1x1x512_0_7_0))

/-- What the body leaves in the dendrite block: the product with the matrix found in the slot of the last point, the bias and the leaky step. -/
def out6 (i : grid1.Coords) (X : Vec F S2048x4096 .bf16) (Z : Vec F S2x4096x512 .bf16) (bi : Vec F S1x1x512 .f32) : FVec F S2048x512 .f32 :=
  k1_pay2 X (VecWindow.window Z (k1_off1 i) S1x4096x512.size (k1_off1_inb i)) bi

/-- What the body leaves in the soma block, from what it finds there. -/
def out7 (i : grid1.Coords) (X : Vec F S2048x4096 .bf16) (Z : Vec F S2x4096x512 .bf16) (bi ca : Vec F S1x1x512 .f32) (sb : Vec F S1x1x64 .f32)
    (D : Vec F S2048x128 .f32) : FVec F S2048x128 .f32 :=
  k1_pay4 (BitVec.ofNat 32 (i 0).val) (out6 i X Z bi) k1_pay3 ca sb (VecWindow.window D ![0, 0] S2048x64.size inb_S2048x128_S2048x64_0_0)

/-- What the body leaves in the two slots: the tile's matrix in the point's own slot, the other slot as found. -/
def outZ (i : grid1.Coords) (I : Vec F S1x8x512 .i16) (W : Vec F S1x8x512 .bf16) (Z : Vec F S2x4096x512 .bf16) : Vec F S2x4096x512 .bf16 :=
  VecWindow.put (s := S2x4096x512) Z (k1_off2 i) S1x4096x512.size (k1_pay1 (matOf I W))

/-- The body at a point, run on nine whole buffers held at given values: the six inputs stay, the two results and the scratch are left at the values named above. -/
theorem body_run (c : Dev nD) (i : grid1.Coords) (M1 : Memref sig .tc .vmem S1x8x512 .i16) (h1 : M1.IsWhole)
    (M2 : Memref sig .tc .vmem S1x8x512 .bf16) (h2 : M2.IsWhole) (M3 : Memref sig .tc .vmem S1x1x512 .f32) (h3 : M3.IsWhole)
    (M4 : Memref sig .tc .vmem S1x1x512 .f32) (h4 : M4.IsWhole) (M5 : Memref sig .tc .vmem S1x1x64 .f32) (h5 : M5.IsWhole)
    (M6 : Memref sig .tc .vmem S2048x4096 .bf16) (h6 : M6.IsWhole) (M7 : Memref sig .tc .vmem S2048x512 .f32) (h7 : M7.IsWhole)
    (M8 : Memref sig .tc .vmem S2048x128 .f32) (h8 : M8.IsWhole) (M9 : Memref sig .tc .vmem S2x4096x512 .bf16) (h9 : M9.IsWhole)
    (I : Vec F S1x8x512 .i16) (W : Vec F S1x8x512 .bf16) (bi ca : Vec F S1x1x512 .f32) (sb : Vec F S1x1x64 .f32)
    (X : Vec F S2048x4096 .bf16) (D7 : Vec F S2048x512 .f32) (D8 : Vec F S2048x128 .f32) (Z : Vec F S2x4096x512 .bf16)
    (E : Set ℕ) (Q : PUnit → sProp 𝕄) :
    iprop((M1.view.loc (c : Thread nD τ) ↦[M1.view.set]{fullShare} M1.view.rep I) ∗ (M2.view.loc (c : Thread nD τ) ↦[M2.view.set]{fullShare} M2.view.rep W)
      ∗ (M3.view.loc (c : Thread nD τ) ↦[M3.view.set]{fullShare} M3.view.rep bi) ∗ (M4.view.loc (c : Thread nD τ) ↦[M4.view.set]{fullShare} M4.view.rep ca)
      ∗ (M5.view.loc (c : Thread nD τ) ↦[M5.view.set]{fullShare} M5.view.rep sb) ∗ (M6.view.loc (c : Thread nD τ) ↦[M6.view.set]{fullShare} M6.view.rep X)
      ∗ (M7.view.loc (c : Thread nD τ) ↦[M7.view.set]{fullShare} M7.view.rep D7) ∗ (M8.view.loc (c : Thread nD τ) ↦[M8.view.set]{fullShare} M8.view.rep D8)
      ∗ (M9.view.loc (c : Thread nD τ) ↦[M9.view.set]{fullShare} M9.view.rep Z)
      ∗ ((M1.view.loc (c : Thread nD τ) ↦[M1.view.set]{fullShare} M1.view.rep I) -∗ (M2.view.loc (c : Thread nD τ) ↦[M2.view.set]{fullShare} M2.view.rep W)
        -∗ (M3.view.loc (c : Thread nD τ) ↦[M3.view.set]{fullShare} M3.view.rep bi) -∗ (M4.view.loc (c : Thread nD τ) ↦[M4.view.set]{fullShare} M4.view.rep ca)
        -∗ (M5.view.loc (c : Thread nD τ) ↦[M5.view.set]{fullShare} M5.view.rep sb) -∗ (M6.view.loc (c : Thread nD τ) ↦[M6.view.set]{fullShare} M6.view.rep X)
        -∗ (M7.view.loc (c : Thread nD τ) ↦[M7.view.set]{fullShare} M7.view.rep (out6 i X Z bi))
        -∗ (M8.view.loc (c : Thread nD τ) ↦[M8.view.set]{fullShare} M8.view.rep (out7 i X Z bi ca sb D8))
        -∗ (M9.view.loc (c : Thread nD τ) ↦[M9.view.set]{fullShare} M9.view.rep (outZ i I W Z)) -∗ Q ⟨⟩))
      ⊢ wp frame (wpE (defs₀ (F := F)) Variants.none (c : Thread nD τ) none) E (cc1__body i M1 h1 M2 h2 M3 h3 M4 h4 M5 h5 M6 h6 M7 h7 M8 h8 M9 h9) Q := by
  iintro ⟨H1, H2, H3, H4, H5, H6, H7, H8, H9, HQ⟩
  sl_exec!
  sl_step
  iapply HQ $$ [H1] [H2] [H3] [H4] [H5] [H6] [H7] [H8] [H9]
  · iexact H1
  · iexact H2
  · iexact H3
  · iexact H4
  · iexact H5
  · iexact H6
  · iapply (rep_of_read c M7 _ _ ?_) $$ H7
    sl_unfold_run_names
    refine (View.read_writes_full M7.view _ _ _ []).trans ?_
    rw [View.readAt_rep_full, View.readAt_rep_full, View.readAt_rep_unit M9.view Z _ rfl (k1_off1_inb i)]
    rfl
  · iapply (rep_of_read c M8 _ _ ?_) $$ H8
    sl_unfold_run_names
    refine (View.read_writes_full M8.view _ _ _ []).trans ?_
    rw [View.readAt_rep_full, View.readAt_rep_full, View.readAt_rep_full, View.readAt_rep_full, View.readAt_rep_unit M9.view Z _ rfl (k1_off1_inb i),
      View.readAt_rep_unit M8.view D8 _ rfl inb_S2048x128_S2048x64_0_0]
    rfl
  · iapply (rep_of_read c M9 _ _ ?_) $$ H9
    refine (View.read_writes_rep_unit M9.view Z _ _ rfl).trans ?_
    unfold outZ matOf
    rw [
      ← View.readAt_rep_unit M1.view I _ rfl inb_S1x8x512_S1x1x512_0_0_0,
      ← View.readAt_rep_unit M1.view I _ rfl inb_S1x8x512_S1x1x512_0_1_0,
      ← View.readAt_rep_unit M1.view I _ rfl inb_S1x8x512_S1x1x512_0_2_0,
      ← View.readAt_rep_unit M1.view I _ rfl inb_S1x8x512_S1x1x512_0_3_0,
      ← View.readAt_rep_unit M1.view I _ rfl inb_S1x8x512_S1x1x512_0_4_0,
      ← View.readAt_rep_unit M1.view I _ rfl inb_S1x8x512_S1x1x512_0_5_0,
      ← View.readAt_rep_unit M1.view I _ rfl inb_S1x8x512_S1x1x512_0_6_0,
      ← View.readAt_rep_unit M1.view I _ rfl inb_S1x8x512_S1x1x512_0_7_0,
      ← View.readAt_rep_unit M2.view W _ rfl inb_S1x8x512_S1x1x512_0_0_0,
      ← View.readAt_rep_unit M2.view W _ rfl inb_S1x8x512_S1x1x512_0_1_0,
      ← View.readAt_rep_unit M2.view W _ rfl inb_S1x8x512_S1x1x512_0_2_0,
      ← View.readAt_rep_unit M2.view W _ rfl inb_S1x8x512_S1x1x512_0_3_0,
      ← View.readAt_rep_unit M2.view W _ rfl inb_S1x8x512_S1x1x512_0_4_0,
      ← View.readAt_rep_unit M2.view W _ rfl inb_S1x8x512_S1x1x512_0_5_0,
      ← View.readAt_rep_unit M2.view W _ rfl inb_S1x8x512_S1x1x512_0_6_0,
      ← View.readAt_rep_unit M2.view W _ rfl inb_S1x8x512_S1x1x512_0_7_0]
    rfl

end Cert.Dend
end
end
-- ==== Proof.Record.lean ====
module

public import proofs.«01_k».proof.Proof.Gen.KernelIdeal.Regions
public import Idealize.ShloMosaic.Lib.Pipeline.RegionArraysF
public import Idealize.ShloMosaic.Lib.Pipeline.DatRel

@[expose] public section

noncomputable section

namespace Cert.Dend

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

/-- Proof data for the two regions on every core. -/
abbrev Data (F : FTy → Type) [FloatOps F] : Type := (p : Fin 2) → (c : Dev nD) → Dat τ (Elt F) Unit ℕ (UR sig nD τ) ℕ (cfgs p) c

/-- What is asked of the windows that are not named exactly. -/
abbrev Rel (F : FTy → Type) [FloatOps F] : Type :=
  (p : Fin 2) → Dev nD → (w : Fin (cfgs p).W) → Fin (cfgs p).N → (((cfgs p).win w).block.Idx → Elt F ((cfgs p).win w).elt) → Prop

/-- The data read relationally: the windows marked by `fg` are held to `Rl`, the others to the named contents. -/
abbrev rel (D : Data F) (fg : (p : Fin 2) → Fin (cfgs p).W → Bool) (Rl : Rel F) (p : Fin 2) (c : Dev nD) :
    RDat τ (Elt F) Unit ℕ (UR sig nD τ) ℕ (cfgs p) c := (D p c).toRRel (fg p) (Rl p c)

/-- What rides along with the unscoped buffers: the generator's register, and the core owing nothing. -/
abbrev ride (c : Dev nD) : sProp 𝕄 :=
  iprop((∃ r, prngReg c r) ∗ ∃ Wd, owes (c : Thread nD τ) (0 : CellTallies nD τ sig Unit) Wd)

/-- A region's record over all the unscoped buffers: entered with them at `W`, left with them at `W'`, where `W'` differs from `W` at most on the
    region's own arrays and every contents the arrays may end with are those of `W'`. -/
def record (D : Data F) (fg : (p : Fin 2) → Fin (cfgs p).W → Bool) (Rl : Rel F) (p : Fin 2)
    (kit : Pipeline.LaunchFacts (nD := nD) (τ := τ) cfgs p)
    (hun : ∀ w, (Pipeline.arrRef (cfgs p).spec w).isScoped = false)
    (hbody : ∀ c, Pipeline.BodyObligationRel (D p c) (defs₀ (F := F)) Variants.none () Set.univ (fg p) (Rl p c))
    (howed : ∀ c t, (D p c).owed t = 0) (hrec : ∀ c, (D p c).recorded 0 = Set.univ) (hshare : ∀ c w, (D p c).share w = fullShare)
    (hin : ∀ c, (Pipeline.scopedRest (cfgs p).spec c : sProp 𝕄) ⊢ (D p c).Φ 0)
    (hout : ∀ c, (D p c).Φ (Fin.last (cfgs p).N) ⊢ (Pipeline.scopedRest (cfgs p).spec c : sProp 𝕄))
    (W W' : Dev nD → Valuation τ sig (Elt F))
    (hW : ∀ c w, (D p c).A w = W c (Proc.devRef .tc (Pipeline.arrRef (cfgs p).spec w)))
    (hW' : ∀ c (A : (w : Fin (cfgs p).W) → Buf (Elt F) (((cfgs p).win w).arr.view.loc (c.tc : Thread nD τ))),
      (∀ w, (rel D fg Rl p c).ArrAt w (cfgs p).N (A w)) → ∀ w, A w = W' c (Proc.devRef .tc (Pipeline.arrRef (cfgs p).spec w)))
    (hoff : ∀ c, ∀ d ∉ Pipeline.arrRefs (τ := τ) (cfgs p).spec, W' c d = W c d) :
    Pipeline.RDat.RegionSeg (pcfgs (F := F)) adm (rel D fg Rl) () defs₀ Variants.none (fun _ => ∅) (fun _ _ => 0) p where
  win := kit.to₀.win
  block_pos := kit.to₀.block_pos
  stage_whole := kit.to₀.stage_whole
  K := PEmpty
  osem k := k.elim
  ho := Pipeline.OwnSemFacts.none _
  hbody c := (hbody c).toRRel
  hwaits c := Pipeline.RDat.hwaits_of_owed_zero (pcfgs (F := F)) adm (rel D fg Rl) () _ _ p howed c
  pre c := iprop(StableHlo.held (c : Thread nD τ) (Pipeline.ucRefs τ sig) (W c) ∗ ride c)
  post c := iprop(StableHlo.held (c : Thread nD τ) (Pipeline.ucRefs τ sig) (W' c) ∗ ride c)
  X _ := iprop(emp)
  Y _ := iprop(emp)
  Z c := iprop(StableHlo.held (c : Thread nD τ) (Pipeline.ucRefs τ sig \ Pipeline.arrRefs (cfgs p).spec) (W c) ∗ ∃ r, prngReg c r)
  hentry c := by
    show _ ⊢ |={Set.univ}=> iprop((D p c).arrays (D p c).A ∗ Pipeline.prefHeld (pcfgs (F := F) p).pre c (fun _ => fullShare) (adm p).1
        ∗ (D p c).owesAt () 0 ∗ _ ∗ _)
    rw [Pipeline.prefHeld_of_none _ rfl, Pipeline.ownSems0_none,
      show ((D p c).arrays (D p c).A : sProp 𝕄) = _ from Pipeline.arrays_held (pcfgs (F := F)) adm D p kit.toP c (hshare c) (D p c).A (W c) (hW c),
      StableHlo.held_sub_split (c : Thread nD τ) (Pipeline.arrRefs_sub_ucRefs (cfgs p).spec hun) (W c)]
    iintro ⟨⟨⟨Ha, Hr⟩, Hp, HO⟩, -, -⟩
    imodintro
    isplitl [Ha]; · iexact Ha
    isplitr; · iempintro
    isplitl [HO]
    · unfold Pipeline.Dat.owesAt Pipeline.owesWithin Pipeline.Dat.bound
      rw [howed c 0, hrec c]
      icases HO with ⟨%Wd, HO⟩
      iexists Wd
      isplitr; · ipureintro; exact fun _ _ => Or.inl trivial
      iexact HO
    isplitr; · iempintro
    isplitl [Hr]; · iexact Hr
    iexact Hp
  hin c := (show _ ⊢ (Pipeline.scopedRest (cfgs p).spec c : sProp 𝕄) from by
    iintro ⟨-, -, Hr⟩
    iexact Hr).trans (hin c)
  hout c := (hout c).trans (by
    rw [Pipeline.ownSems0_none]
    iintro Hr
    isplitr; · iempintro
    isplitr; · iempintro
    iexact Hr)
  hexit c := by
    show iprop((rel D fg Rl p c).arraysAt (cfgs p).N ∗ (D p c).owesAt () (Fin.last (cfgs p).N) ∗ _ ∗ _) ⊢ _
    have hA : ((rel D fg Rl p c).arraysAt (cfgs p).N : sProp 𝕄)
        ⊢ StableHlo.held (c : Thread nD τ) (Pipeline.arrRefs (cfgs p).spec) (W' c) := by
      unfold Pipeline.RDat.arraysAt
      refine (BI.bigSep_exists_pi Finset.univ _).trans ?_
      iintro ⟨%A, H⟩
      ihave H' := (BI.bigSep_pure_sep Finset.univ (fun w => (rel D fg Rl p c).ArrAt w (cfgs p).N (A w)) _) $$ H
      icases H' with ⟨%hA, H⟩
      have e := Pipeline.arrays_held (pcfgs (F := F)) adm D p kit.toP c (hshare c) A (W' c) (hW' c A fun w => hA w (Finset.mem_univ w))
      have e' : ((D p c).arrays A : sProp 𝕄) ⊢ StableHlo.held (c : Thread nD τ) (Pipeline.arrRefs (cfgs p).spec) (W' c) := e ▸ .rfl
      iapply e'
      unfold Pipeline.Dat.arrays
      iexact H
    iintro ⟨Ha, HO, -, ⟨Hr, Hp⟩⟩
    imodintro
    rw [StableHlo.held_sub_split (c : Thread nD τ) (Pipeline.arrRefs_sub_ucRefs (cfgs p).spec hun) (W' c),
      StableHlo.held_congr (c : Thread nD τ) (S := Pipeline.ucRefs τ sig \ Pipeline.arrRefs (cfgs p).spec) (fun d hd => hoff c d (Finset.mem_sdiff.mp hd).2)]
    isplitl [Ha Hr]
    · isplitl [Ha]
      · iapply hA $$ Ha
      · iexact Hr
    isplitl [Hp]; · iexact Hp
    unfold Pipeline.Dat.owesAt Pipeline.owesWithin
    rw [howed c (Fin.last _)]
    icases HO with ⟨%Wd, -, HO⟩
    iexists Wd
    iexact HO

end Cert.Dend
end
end
-- ==== Proof.Region1.lean ====
module

public import proofs.«01_k».proof.Proof.Body
public import proofs.«01_k».proof.Proof.Record
public import Idealize.ShloMosaic.Lib.Pipeline.ArrRel

@[expose] public section

set_option maxRecDepth 16384

noncomputable section

namespace Cert.Dend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

/-! ## What the region computes, from the unscoped buffers it is entered with -/

section Values

variable (V : Dev nD → Valuation τ sig (Elt F)) (c : Dev nD)

/-- Window `w`'s block at point `t`: its array read through the block. -/
def iblk (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile's matrix that point `t` prepares. -/
def mat (t : Fin cfg1.N) : FVec F S1x4096x512 .bf16 := k1_pay1 (matOf (iblk V c 0 t) (iblk V c 1 t))

/-- The point before. -/
abbrev prev (t : Fin cfg1.N) : Fin cfg1.N := ⟨t.val - 1, Nat.lt_of_le_of_lt (Nat.sub_le _ _) t.isLt⟩

/-- The dendrite block of point `t`: the product with the matrix of the point before. -/
def den (t : Fin cfg1.N) : FVec F S2048x512 .f32 := k1_pay2 (iblk V c 5 t) (mat V c (prev t)) (iblk V c 2 t)

/-- The soma block from a dendrite block: the masked sums, the bias and the leaky step. -/
def somaOf (v23 : FVec F S2048x512 .f32) (v33 : FVec F S512x64 .bf16) (v34 : Vec F S1x1x512 .f32) (v40 : Vec F S1x1x64 .f32) : FVec F S2048x64 .f32 :=
  have v36 : FVec F S2048x512 .f32 := broadcastTo S2048x512 (shapeCast S1x512 v34 shapeCasts_S1x1x512_S1x512) broadcasts_S1x512_S2048x512
  have v38 : FVec F S2048x512 .bf16 := truncf .bf16 (mulf v23 v36) bitsLt_bf16_f32
  have v39 : FVec F S2048x64 .f32 := matmul dot_S2048x512_S512x64_S2048x64_1_0_0_1_n_n none v38 v33 (constant S2048x64 .f32 0x00000000#32)
  have v43 : FVec F S2048x64 .f32 := addf v39 (broadcastTo S2048x64 (shapeCast S1x64 v40 shapeCasts_S1x1x64_S1x64) broadcasts_S1x64_S2048x64)
  maximumf v43 (mulf (broadcast S2048x64 (Scalar.ofBits .f32 0x3DCCCCCD#32)) v43)

/-- The soma block of point `t`. -/
def soma (t : Fin cfg1.N) : FVec F S2048x64 .f32 := somaOf (den V c t) k1_pay3 (iblk V c 3 t) (iblk V c 4 t)

/-- Two soma blocks side by side. -/
def pairOf (a b : FVec F S2048x64 .f32) : FVec F S2048x128 .f32 :=
  concatenate S2048x128 1 [⟨S2048x64, a⟩, ⟨S2048x64, b⟩] concatenates_S2048x64_S2048x64_S2048x128_d1

/-- The first point of the pair that point `t` belongs to: the odd one. -/
abbrev first (t : Fin cfg1.N) : Fin cfg1.N := if t.val % 2 = 1 then t else prev t

/-- The soma window's block after point `t`. -/
def pair (t : Fin cfg1.N) : FVec F S2048x128 .f32 := pairOf (soma V c (first t)) (soma V c t)

end Values

/-- The body's test of the point's parity. -/
def pairBit (arg0 : BitVec 32) : BitVec 1 :=
  let v49 : BitVec 32 := Scalar.select (Scalar.cmpi .eq 2#32 0#32) 1#32 2#32
  let v50 : BitVec 32 := Scalar.remsi (Scalar.subi arg0 1#32) v49
  Scalar.cmpi .eq (Scalar.select (Scalar.andi (Scalar.xori (Scalar.cmpi .slt v50 0#32) (Scalar.cmpi .slt v49 0#32)) (Scalar.cmpi .ne v50 0#32)) (Scalar.addi v50 v49) v50) 0#32

/-- The test is true at the odd points and false at the others. -/
theorem pairBit_eq : ∀ t : Fin 17, 1 ≤ t.val → pairBit (BitVec.ofNat 32 t.val) = if t.val % 2 = 1 then 1#1 else 0#1 := by decide

/-- The soma window's payload: the block of this point on the right; on the left it too, or what was found there. -/
theorem pay4_eq (a : BitVec 32) (v23 : FVec F S2048x512 .f32) (v33 : FVec F S512x64 .bf16) (v34 : Vec F S1x1x512 .f32) (v40 : Vec F S1x1x64 .f32) (D : Vec F S2048x64 .f32) :
    k1_pay4 a v23 v33 v34 v40 D
      = pairOf (Scalar.select (pairBit a) (somaOf v23 v33 v34 v40) (shapeCast S2048x64 D shapeCasts_S2048x64_S2048x64)) (somaOf v23 v33 v34 v40) := rfl

/-- The left half of two blocks side by side. -/
theorem window_pairOf (a b : FVec F S2048x64 .f32) :
    VecWindow.window (s := S2048x128) (pairOf a b) ![0, 0] S2048x64.size inb_S2048x128_S2048x64_0_0 = a := by
  funext y
  exact concatenate_pair_apply_left (t := S2048x128) 1 a b concatenates_S2048x64_S2048x64_S2048x128_d1 _ rfl y (fun b => by
    match b with
    | ⟨0, _⟩ => show (y 0).val = 0 + 1 * (y 0).val; omega
    | ⟨1, _⟩ => show (y 1).val = 0 + 1 * (y 1).val; omega)

/-- A grid point's coordinate is its number. -/
theorem coord1 : ∀ t : Fin grid1.N, (grid1.coords t 0).val = t.val := by decide +kernel

/-- The slot read at a point is the slot written at the point before. -/
theorem off1_succ : ∀ t : Fin grid1.N, 1 ≤ t.val → k1_off1 (grid1.coords t) = k1_off2 (grid1.coords (prev t)) := by decide +kernel

/-- The dendrite window is written back at every point but the first, -/
theorem flush1_6 : ∀ t : Fin grid1.N, win1_6.flush t = true ↔ 1 ≤ t.val := by decide +kernel
/-- the soma window at every even point but the first, -/
theorem flush1_7 : ∀ t : Fin grid1.N, win1_7.flush t = true ↔ 1 ≤ t.val ∧ t.val % 2 = 0 := by decide +kernel
/-- and neither is fetched. -/
theorem fetch1_7 : ∀ t : Fin grid1.N, win1_7.fetch t = false := by decide +kernel

/-! ## The region's data -/

/-- The two result windows: what they hold after the first point is not named. -/
def fg1 : Fin cfg1.W → Bool
  | ⟨6, _⟩ => true
  | ⟨7, _⟩ => true
  | _ => false

section Data

variable (V : Dev nD → Valuation τ sig (Elt F)) (c : Dev nD)

/-- What the result windows hold after a point that is not the first. -/
def rel1 : (w : Fin cfg1.W) → Fin cfg1.N → ((cfg1.win w).block.Idx → Elt F (cfg1.win w).elt) → Prop
  | ⟨6, _⟩ => fun t X => 1 ≤ t.val → X = den V c t
  | ⟨7, _⟩ => fun t X => 1 ≤ t.val → X = pair V c t
  | _ => fun _ _ => True

/-- The scratch before point `n`: the slot of the point before holds that point's matrix. -/
def scr (n : ℕ) : sProp 𝕄 :=
  iprop(∃ Z : Vec F S2x4096x512 .bf16,
    ⌜∀ s : Fin cfg1.N, s.val + 1 = n → VecWindow.window (s := S2x4096x512) Z (k1_off2 (grid1.coords s)) S1x4096x512.size (k1_off2_inb (grid1.coords s)) = mat V c s⌝
      ∗ owns (c : Thread nD τ) (Memref.whole cc1_scratch0) fullShare Z)

/-- The staging buffers of the other region. -/
abbrev others : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Region 1's data: every array as entered with, the six inputs staying in place, the two results named by `rel1`, the scratch by `scr`. -/
def dat1 : Dat τ (Elt F) Unit ℕ (UR sig nD τ) ℕ cfg1 c where
  A w := V c (Pipeline.arrRef spec1 w)
  after
    | ⟨6, _⟩ => fun _ _ => Classical.arbitrary _
    | ⟨7, _⟩ => fun _ _ => Classical.arbitrary _
    | ⟨0, _⟩ => fun t => iblk V c 0 t
    | ⟨1, _⟩ => fun t => iblk V c 1 t
    | ⟨2, _⟩ => fun t => iblk V c 2 t
    | ⟨3, _⟩ => fun t => iblk V c 3 t
    | ⟨4, _⟩ => fun t => iblk V c 4 t
    | ⟨5, _⟩ => fun t => iblk V c 5 t
  Φ t := iprop(scr V c t.val ∗ others c)
  q _ := fullShare
  owed _ := 0

/-- An input window's staging buffer holds its block at every point. -/
theorem before1_0 (t : Fin cfg1.N) (d) : (dat1 V c).before 0 t d = iblk V c 0 t :=
  ((dat1 V c).before_in_eq_fetched 0 rfl (fun _ => rfl) (fun _ _ _ => rfl) (fun _ => rfl) t d).trans rfl
theorem before1_1 (t : Fin cfg1.N) (d) : (dat1 V c).before 1 t d = iblk V c 1 t :=
  ((dat1 V c).before_in_eq_fetched 1 rfl (fun _ => rfl) (fun _ _ _ => rfl) (fun _ => rfl) t d).trans rfl
theorem before1_2 (t : Fin cfg1.N) (d) : (dat1 V c).before 2 t d = iblk V c 2 t :=
  ((dat1 V c).before_in_eq_fetched 2 rfl (fun _ => rfl) (fun _ _ _ => rfl) (fun _ => rfl) t d).trans rfl
theorem before1_3 (t : Fin cfg1.N) (d) : (dat1 V c).before 3 t d = iblk V c 3 t :=
  ((dat1 V c).before_in_eq_fetched 3 rfl (fun _ => rfl) (fun _ _ _ => rfl) (fun _ => rfl) t d).trans rfl
theorem before1_4 (t : Fin cfg1.N) (d) : (dat1 V c).before 4 t d = iblk V c 4 t :=
  ((dat1 V c).before_in_eq_fetched 4 rfl (fun _ => rfl) (fun _ _ _ => rfl) (fun _ => rfl) t d).trans rfl
theorem before1_5 (t : Fin cfg1.N) (d) : (dat1 V c).before 5 t d = iblk V c 5 t :=
  ((dat1 V c).before_in_eq_fetched 5 rfl (fun _ => rfl) (fun _ _ _ => rfl) (fun _ => rfl) t d).trans rfl

/-- Windows at equal offsets are equal. -/
theorem window_at {s : Shape} {α : Type} (x : s.Idx → α) {off off' : Fin s.rank → ℕ} (size : Fin s.rank → ℕ) (h : off = off')
    (inb : ∀ a, off a + size a ≤ s.size a) (inb' : ∀ a, off' a + size a ≤ s.size a) : VecWindow.window x off size inb = VecWindow.window x off' size inb' := by
  subst h
  rfl

/-- After a point that is not the first the dendrite block is the one named. -/
theorem out6_eq (t : Fin cfg1.N) (ht : 1 ≤ t.val) (Z : Vec F S2x4096x512 .bf16)
    (hZ : ∀ s : Fin cfg1.N, s.val + 1 = t.val →
      VecWindow.window (s := S2x4096x512) Z (k1_off2 (grid1.coords s)) S1x4096x512.size (k1_off2_inb (grid1.coords s)) = mat V c s) :
    out6 (grid1.coords t) (iblk V c 5 t) Z (iblk V c 2 t) = den V c t := by
  unfold out6 den
  rw [window_at (s := S2x4096x512) Z S1x4096x512.size (off1_succ t ht) _ (k1_off2_inb (grid1.coords (prev t))), hZ (prev t) (Nat.sub_add_cancel ht)]

/-- After a point that is not the first the soma block is the one named, if at an even point the left half was left by the point before. -/
theorem out7_eq (t : Fin cfg1.N) (ht : 1 ≤ t.val) (Z : Vec F S2x4096x512 .bf16)
    (hZ : ∀ s : Fin cfg1.N, s.val + 1 = t.val →
      VecWindow.window (s := S2x4096x512) Z (k1_off2 (grid1.coords s)) S1x4096x512.size (k1_off2_inb (grid1.coords s)) = mat V c s)
    (D : Vec F S2048x128 .f32) (hD : t.val % 2 = 0 → D = pair V c (prev t)) :
    out7 (grid1.coords t) (iblk V c 5 t) Z (iblk V c 2 t) (iblk V c 3 t) (iblk V c 4 t) D = pair V c t := by
  unfold out7
  have hN : t.val < 17 := N_1 ▸ t.isLt
  rw [out6_eq V c t ht Z hZ, pay4_eq, coord1, pairBit_eq ⟨t.val, hN⟩ ht, shapeCast_self]
  unfold pair
  rcases Nat.mod_two_eq_zero_or_one t.val with h | h
  · have hp : (prev t).val % 2 = 1 := by show (t.val - 1) % 2 = 1; omega
    rw [hD h]
    unfold pair
    rw [window_pairOf, show first t = prev t from if_neg (by omega), show first (prev t) = prev t from if_pos hp,
      show (if (⟨t.val, hN⟩ : Fin 17).val % 2 = 1 then 1#1 else 0#1) = 0#1 from if_neg (by show ¬ t.val % 2 = 1; omega)]
    rfl
  · rw [show first t = t from if_pos h, show (if (⟨t.val, hN⟩ : Fin 17).val % 2 = 1 then 1#1 else 0#1) = 1#1 from if_pos h]
    rfl

/-- At an even point the soma window is found as the point before left it. -/
theorem finds1_7 (t : Fin cfg1.N) (ht : 1 ≤ t.val) (h0 : t.val % 2 = 0) (D) (hD : ((dat1 V c).toRRel fg1 (rel1 V c)).Finds 7 t D) : D = pair V c (prev t) := by
  have h1 := (RDat.finds_of_pos _ (fetch1_7 t) (by omega) D).mp hD
  rcases h1 with h1 | h1
  · have := ((flush1_7 (prev t)).mp h1).2
    have e : (prev t).val = t.val - 1 := rfl
    omega
  · exact Dat.toRRel_leaves (dat1 V c) (fgt := fg1) (Rl := rel1 V c) (w := 7) rfl h1 (by show 1 ≤ t.val - 1; omega)

/-- The body obligation: at every point the body keeps the inputs, leaves the named blocks in the result windows and the tile's matrix in the point's slot. -/
theorem body1 : Pipeline.BodyObligationRel (dat1 V c) (defs₀ (F := F)) Variants.none () Set.univ fg1 (rel1 V c) := fun t => by
  rw [bigSep_W1, bigSep_W1]
  simp only [show fg1 0 = false from rfl, show fg1 1 = false from rfl, show fg1 2 = false from rfl, show fg1 3 = false from rfl,
    show fg1 4 = false from rfl, show fg1 5 = false from rfl, show fg1 6 = true from rfl, show fg1 7 = true from rfl,
    before1_0, before1_1, before1_2, before1_3, before1_4, before1_5]
  rw [show (dat1 V c).Φ t.castSucc = iprop(scr V c t.val ∗ others c) from rfl, show (dat1 V c).Φ t.succ = iprop(scr V c (t.val + 1) ∗ others c) from rfl,
    show (dat1 V c).owesAt () t.succ = (dat1 V c).owesAt () t.castSucc from rfl]
  unfold scr
  iintro ⟨⟨⟨%Z, %hZ, H9⟩, Hoth⟩, HO, ⟨%_, H1⟩, ⟨%_, H2⟩, ⟨%_, H3⟩, ⟨%_, H4⟩, ⟨%_, H5⟩, ⟨%_, H6⟩, ⟨%D7, %h7, H7⟩, ⟨%D8, %h8, H8⟩⟩
  ihave H1 := (rep_of_owns _ _ _ _) $$ H1
  ihave H2 := (rep_of_owns _ _ _ _) $$ H2
  ihave H3 := (rep_of_owns _ _ _ _) $$ H3
  ihave H4 := (rep_of_owns _ _ _ _) $$ H4
  ihave H5 := (rep_of_owns _ _ _ _) $$ H5
  ihave H6 := (rep_of_owns _ _ _ _) $$ H6
  ihave H7 := (rep_of_owns _ _ _ _) $$ H7
  ihave H8 := (rep_of_owns _ _ _ _) $$ H8
  ihave H9 := (rep_of_owns _ _ _ _) $$ H9
  iapply (body_run c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (win1_4.stage (cfg1.slots t 4)) (hstage1_4 ((cfg1.slots t 4).cast nbuf1_4)) (win1_5.stage (cfg1.slots t 5)) (hstage1_5 ((cfg1.slots t 5).cast nbuf1_5))
    (win1_6.stage (cfg1.slots t 6)) (hstage1_6 ((cfg1.slots t 6).cast nbuf1_6)) (win1_7.stage (cfg1.slots t 7)) (hstage1_7 ((cfg1.slots t 7).cast nbuf1_7))
    (Memref.whole cc1_scratch0) (Memref.isWhole_whole _)
    (iblk V c 0 t) (iblk V c 1 t) (iblk V c 2 t) (iblk V c 3 t) (iblk V c 4 t) (iblk V c 5 t) D7 D8 Z Set.univ _) $$ [H1 H2 H3 H4 H5 H6 H7 H8 H9 Hoth HO]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro H1 H2 H3 H4 H5 H6 H7 H8 H9
  isplitl [H9 Hoth]
  · isplitl [H9]
    · iexists (outZ (grid1.coords t) (iblk V c 0 t) (iblk V c 1 t) Z)
      isplitr
      · ipureintro
        intro s hs
        obtain rfl : s = t := Fin.ext (by omega)
        exact VecWindow.window_put_same (s := S2x4096x512) Z _ _ (k1_off2_inb (grid1.coords s)) _
      · iapply (owns_of_rep _ _ _ _) $$ H9
    · iexact Hoth
  isplitl [HO]; · iexact HO
  isplitl [H1]; · iapply (owns_of_rep _ _ _ _) $$ H1
  isplitl [H2]; · iapply (owns_of_rep _ _ _ _) $$ H2
  isplitl [H3]; · iapply (owns_of_rep _ _ _ _) $$ H3
  isplitl [H4]; · iapply (owns_of_rep _ _ _ _) $$ H4
  isplitl [H5]; · iapply (owns_of_rep _ _ _ _) $$ H5
  isplitl [H6]; · iapply (owns_of_rep _ _ _ _) $$ H6
  isplitl [H7]
  · iexists (out6 (grid1.coords t) (iblk V c 5 t) Z (iblk V c 2 t))
    isplitr
    · ipureintro
      exact fun ht => out6_eq V c t ht Z hZ
    · iapply (owns_of_rep _ _ _ _) $$ H7
  · iexists (out7 (grid1.coords t) (iblk V c 5 t) Z (iblk V c 2 t) (iblk V c 3 t) (iblk V c 4 t) D8)
    isplitr
    · ipureintro
      exact fun ht => out7_eq V c t ht Z hZ D8 fun h0 => finds1_7 V c t ht h0 D8 h8
    · iapply (owns_of_rep _ _ _ _) $$ H8

end Data

end Cert.Dend
end
end
-- ==== Proof.Final.lean ====
module

public import proofs.«01_k».proof.Proof.Region1
public import Idealize.ShloMosaic.Lib.ValueIdxCore

@[expose] public section

set_option maxRecDepth 16384

noncomputable section

namespace Cert.Dend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat RDat)

variable {F : FTy → Type} [FloatOps F]

local notation "𝕄" => MT nD τ sig Unit (Elt F) ℕ (UR sig nD τ) ℕ

/-- A result array after a region, when what is asked of the window's blocks at its flushing points makes each of them a block of one array `G`
    and those blocks cover the array. -/
theorem final {p : Fin 2} {c : Dev nD} (D : Dat τ (Elt F) Unit ℕ (UR sig nD τ) ℕ (cfgs p) c) (fg : Fin (cfgs p).W → Bool)
    (Rl : (w : Fin (cfgs p).W) → Fin (cfgs p).N → (((cfgs p).win w).block.Idx → Elt F ((cfgs p).win w).elt) → Prop) (w : Fin (cfgs p).W)
    (hfg : fg w = true) (G : Buf (Elt F) (((cfgs p).win w).arr.view.loc (c.tc : Thread nD τ)))
    (hG : ∀ t, ((cfgs p).win w).flush t = true → ∀ X, Rl w t X →
      (fun y => X (((cfgs p).win w).xinj ((cfgs p).grid.coords t) y)) = (((cfgs p).win w).blk t).view.read (Elt F) G)
    (hcover : ∀ i : (((cfgs p).win w).arr.view.loc (c.tc : Thread nD τ)).2.ty.Idx,
      ∃ t : Fin (cfgs p).N, ((cfgs p).win w).flush t = true ∧ i ∈ (((cfgs p).win w).blk t).view.set)
    (A : Buf (Elt F) (((cfgs p).win w).arr.view.loc (c.tc : Thread nD τ))) (hA : (D.toRRel fg Rl).ArrAt w (cfgs p).N A) : A = G := by
  obtain ⟨X, hX, hA⟩ := RDat.ArrAt.exists_exact hA
  rw [hA (Function.update (fun _ _ _ => Classical.arbitrary _) w X) fun u _ _ => by rw [Function.update_self]]
  refine Dat.arrAt_eq_of_cover _ w G (fun t ht => ?_) hcover
  refine Eq.trans ?_ (hG t ht (X t) (D.toRRel_leaves hfg (hX t t.isLt ht)))
  funext y
  rw [Dat.flushed_apply, RDat.withAfter_after, Function.update_self]

/-! ## Region 1's result arrays -/

theorem index1_6 : ∀ t : Fin grid1.N, win1_6.index t 0 = 0 ∧ win1_6.index t 1 = t.val - 1 := by decide +kernel
theorem index1_7 : ∀ t : Fin grid1.N, win1_7.index t 0 = 0 ∧ win1_7.index t 1 = (t.val - 1) / 2 := by decide +kernel

section One

variable (V : Dev nD → Valuation τ sig (Elt F)) (c : Dev nD)

/-- A number below 17 is a point. -/
theorem lt17 {n : ℕ} (h : n < 17) : n < cfg1.N := Nat.lt_of_lt_of_eq h N_1.symm

/-- The point whose dendrite block holds column `n`. -/
abbrev at6 (n : Fin 8192) : Fin cfg1.N := ⟨n.val / 512 + 1, lt17 (by omega)⟩
/-- The point whose soma block holds column `n`. -/
abbrev at7 (n : Fin 1024) : Fin cfg1.N := ⟨n.val / 64 + 1, lt17 (by omega)⟩

/-- The dendrite array. -/
def dend : Vec F S2048x8192 .f32 := fun i => den V c (at6 (i 1)) (ix2 (i 0) ⟨(i 1).val % 512, Nat.mod_lt _ (by decide)⟩)

/-- The soma array. -/
def somata : Vec F S2048x1024 .f32 := fun i => soma V c (at7 (i 1)) (ix2 (i 0) ⟨(i 1).val % 64, Nat.mod_lt _ (by decide)⟩)

theorem emb6 (t : Fin cfg1.N) (y : S2048x512.Idx) :
    ((((cfg1.win 6).blk t).view.emb y 0 : Fin _) : ℕ) = (y 0).val ∧ ((((cfg1.win 6).blk t).view.emb y 1 : Fin _) : ℕ) = (t.val - 1) * 512 + (y 1).val := by
  constructor
  · refine (win1_6.rect_emb_val t y 0).trans ?_
    rw [(index1_6 t).1, Nat.zero_mul, Nat.zero_add]
  · refine (win1_6.rect_emb_val t y 1).trans ?_
    rw [(index1_6 t).2]
    rfl

theorem emb7 (t : Fin cfg1.N) (y : S2048x128.Idx) :
    ((((cfg1.win 7).blk t).view.emb y 0 : Fin _) : ℕ) = (y 0).val ∧ ((((cfg1.win 7).blk t).view.emb y 1 : Fin _) : ℕ) = (t.val - 1) / 2 * 128 + (y 1).val := by
  constructor
  · refine (win1_7.rect_emb_val t y 0).trans ?_
    rw [(index1_7 t).1, Nat.zero_mul, Nat.zero_add]
  · refine (win1_7.rect_emb_val t y 1).trans ?_
    rw [(index1_7 t).2]
    rfl

theorem mem6 (t : Fin cfg1.N) (i : S2048x8192.Idx) (h : (t.val - 1) * 512 ≤ (i 1).val ∧ (i 1).val < (t.val - 1) * 512 + 512) :
    i ∈ ((cfg1.win 6).blk t).view.set := by
  refine (ValueKit.mem_set_slice_whole_iff main_v12_0 (win1_6.rect t) i (win1_6.mem_rect_iff t i)).mpr fun a => ?_
  match a with
  | 0 =>
    rw [(index1_6 t).1]
    refine ⟨by omega, ?_⟩
    have := (i 0).isLt
    show (i 0).val < 0 * 2048 + 2048
    exact (Nat.zero_mul 2048).symm ▸ (Nat.zero_add 2048).symm ▸ (i 0).isLt
  | 1 =>
    rw [(index1_6 t).2]
    exact h

theorem mem7 (t : Fin cfg1.N) (i : S2048x1024.Idx) (h : (t.val - 1) / 2 * 128 ≤ (i 1).val ∧ (i 1).val < (t.val - 1) / 2 * 128 + 128) :
    i ∈ ((cfg1.win 7).blk t).view.set := by
  refine (ValueKit.mem_set_slice_whole_iff main_v12_1 (win1_7.rect t) i (win1_7.mem_rect_iff t i)).mpr fun a => ?_
  match a with
  | 0 =>
    rw [(index1_7 t).1]
    refine ⟨by omega, ?_⟩
    show (i 0).val < 0 * 2048 + 2048
    exact (Nat.zero_mul 2048).symm ▸ (Nat.zero_add 2048).symm ▸ (i 0).isLt
  | 1 =>
    rw [(index1_7 t).2]
    exact h

/-- What the region leaves in the dendrite array. -/
theorem final6 (A) (hA : ((dat1 V c).toRRel fg1 (rel1 V c)).ArrAt 6 cfg1.N A) : A = dend V c := by
  refine final (p := 1) (dat1 V c) fg1 (rel1 V c) 6 rfl (dend V c) (fun t ht X hX => ?_) (fun i => ?_) A hA
  · have h1 := (flush1_6 t).mp ht
    obtain rfl : X = den V c t := hX h1
    funext y
    obtain ⟨e0, e1⟩ := emb6 t y
    have hy : (y 1).val < 512 := (y 1).isLt
    rw [View.read_apply]
    show den V c t y = den V c (at6 (((cfg1.win 6).blk t).view.emb y 1)) _
    have et : at6 (((cfg1.win 6).blk t).view.emb y 1) = t := Fin.ext (by show _ / 512 + 1 = t.val; rw [e1]; omega)
    rw [et]
    refine congrArg (den V c t) (funext fun a => Fin.ext ?_)
    match a with
    | 0 => exact e0.symm
    | 1 =>
      refine Eq.trans ?_ (congrArg (· % 512) e1.symm)
      show (y 1).val = ((t.val - 1) * 512 + (y 1).val) % 512
      omega
  · have hi : (i 1).val < 8192 := (i 1).isLt
    refine ⟨at6 (i 1), (flush1_6 _).mpr (Nat.succ_le_succ (Nat.zero_le _)), mem6 _ i ?_⟩
    show ((i 1).val / 512 + 1 - 1) * 512 ≤ (i 1).val ∧ (i 1).val < ((i 1).val / 512 + 1 - 1) * 512 + 512
    omega

/-- A pair of soma blocks at an index: the left one below column 64, the right one from there on. -/
theorem pairOf_apply (a b : FVec F S2048x64 .f32) (y : S2048x128.Idx) :
    pairOf a b y = if h : (y 1).val < 64 then a (ix2 (y 0) ⟨(y 1).val, h⟩)
      else b (ix2 (y 0) ⟨(y 1).val - 64, by have : (y 1).val < 128 := (y 1).isLt; omega⟩) := by
  unfold pairOf
  split
  · rename_i h
    refine concatenate_pair_apply_left 1 a b concatenates_S2048x64_S2048x64_S2048x128_d1 y rfl _ fun k => ?_
    match k with
    | 0 => rfl
    | 1 => rfl
  · rename_i h
    refine concatenate_pair_apply_right 1 a b concatenates_S2048x64_S2048x64_S2048x128_d1 y rfl rfl _ (fun k hk => ?_) (Nat.sub_add_cancel (Nat.le_of_not_lt h))
    match k with
    | 0 => rfl
    | 1 => exact absurd rfl hk

/-- What the region leaves in the soma array. -/
theorem final7 (A) (hA : ((dat1 V c).toRRel fg1 (rel1 V c)).ArrAt 7 cfg1.N A) : A = somata V c := by
  refine final (p := 1) (dat1 V c) fg1 (rel1 V c) 7 rfl (somata V c) (fun t ht X hX => ?_) (fun i => ?_) A hA
  · obtain ⟨h1, h2⟩ := (flush1_7 t).mp ht
    obtain rfl : X = pair V c t := hX h1
    funext y
    obtain ⟨e0, e1⟩ := emb7 t y
    have hy : (y 1).val < 128 := (y 1).isLt
    rw [View.read_apply]
    show pair V c t y = soma V c (at7 (((cfg1.win 7).blk t).view.emb y 1)) _
    unfold pair
    rw [pairOf_apply]
    split
    · rename_i h
      have et : at7 (((cfg1.win 7).blk t).view.emb y 1) = first t := Fin.ext (by
        rw [show first t = prev t from if_neg (by omega)]
        show _ / 64 + 1 = t.val - 1
        rw [e1]; omega)
      rw [et]
      refine congrArg (soma V c (first t)) (funext fun a => Fin.ext ?_)
      match a with
      | 0 => exact e0.symm
      | 1 =>
        refine Eq.trans ?_ (congrArg (· % 64) e1.symm)
        show (y 1).val = ((t.val - 1) / 2 * 128 + (y 1).val) % 64
        omega
    · rename_i h
      have et : at7 (((cfg1.win 7).blk t).view.emb y 1) = t := Fin.ext (by
        show _ / 64 + 1 = t.val
        rw [e1]; omega)
      rw [et]
      refine congrArg (soma V c t) (funext fun a => Fin.ext ?_)
      match a with
      | 0 => exact e0.symm
      | 1 =>
        refine Eq.trans ?_ (congrArg (· % 64) e1.symm)
        show (y 1).val - 64 = ((t.val - 1) / 2 * 128 + (y 1).val) % 64
        omega
  · have hi : (i 1).val < 1024 := (i 1).isLt
    refine ⟨⟨2 * ((i 1).val / 128) + 2, lt17 (by omega)⟩, (flush1_7 _).mpr ⟨by show 1 ≤ 2 * ((i 1).val / 128) + 2; omega, by show (2 * ((i 1).val / 128) + 2) % 2 = 0; omega⟩, mem7 _ i ?_⟩
    show (2 * ((i 1).val / 128) + 2 - 1) / 2 * 128 ≤ (i 1).val ∧ (i 1).val < (2 * ((i 1).val / 128) + 2 - 1) / 2 * 128 + 128
    omega

/-! ## The scratch on entry and exit -/

theorem in1 : (Pipeline.scopedRest spec1 c : sProp 𝕄) ⊢ (dat1 V c).Φ 0 := by
  rw [scopedRest1_eq c]
  show _ ⊢ iprop(scr V c 0 ∗ others c)
  unfold scr others
  iintro ⟨H1, H2, H3, H4, ⟨%f, H5⟩⟩
  isplitl [H5]
  · iexists f
    isplitr
    · ipureintro
      exact fun s hs => absurd hs (Nat.succ_ne_zero _)
    · rw [owns_whole_eq]
      iexists f
      isplitr; · ipureintro; rfl
      iexact H5
  isplitl [H1]; · iexact H1
  isplitl [H2]; · iexact H2
  isplitl [H3]; · iexact H3
  iexact H4

theorem out1 : (dat1 V c).Φ (Fin.last cfg1.N) ⊢ (Pipeline.scopedRest spec1 c : sProp 𝕄) := by
  rw [scopedRest1_eq c]
  show iprop(scr V c cfg1.N ∗ others c) ⊢ _
  unfold scr others
  iintro ⟨⟨%f, -, H5⟩, H1, H2, H3, H4⟩
  ihave H5 := (Entails.of_eq (owns_whole_eq (c : Thread nD τ) cc1_scratch0 fullShare f)) $$ H5
  icases H5 with ⟨%g, -, H5⟩
  isplitl [H1]; · iexact H1
  isplitl [H2]; · iexact H2
  isplitl [H3]; · iexact H3
  isplitl [H4]; · iexact H4
  iexists g
  iexact H5

end One

end Cert.Dend
end
end
-- ==== Proof.Region0.lean ====
module

public import proofs.«01_k».proof.Proof.Final

@[expose] public section

set_option maxRecDepth 16384

noncomputable section

namespace Cert.Dend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

/-- The cast's body, run on two whole buffers: the input stays, the output is left at the narrowed input. -/
theorem cast_run (c : Dev nD) (i : grid0.Coords) (M1 : Memref sig .tc .vmem S256x4096 .f32) (h1 : M1.IsWhole)
    (M2 : Memref sig .tc .vmem S256x4096 .bf16) (h2 : M2.IsWhole) (X : Vec F S256x4096 .f32) (D : Vec F S256x4096 .bf16) (E : Set ℕ) (Q : PUnit → sProp 𝕄) :
    iprop((M1.view.loc (c : Thread nD τ) ↦[M1.view.set]{fullShare} M1.view.rep X) ∗ (M2.view.loc (c : Thread nD τ) ↦[M2.view.set]{fullShare} M2.view.rep D)
      ∗ ((M1.view.loc (c : Thread nD τ) ↦[M1.view.set]{fullShare} M1.view.rep X) -∗ (M2.view.loc (c : Thread nD τ) ↦[M2.view.set]{fullShare} M2.view.rep (k0_pay1 X)) -∗ Q ⟨⟩))
      ⊢ wp frame (wpE (defs₀ (F := F)) Variants.none (c : Thread nD τ) none) E (cc0__cast_body i M1 h1 M2 h2) Q := by
  iintro ⟨H1, H2, HQ⟩
  sl_exec!
  sl_step
  iapply HQ $$ [H1] [H2]
  · iexact H1
  · iapply (rep_of_read c M2 _ _ ?_) $$ H2
    sl_unfold_run_names
    refine (View.read_writes_full M2.view _ _ _ []).trans ?_
    rw [View.readAt_rep_full]

section Zero

variable (V : Dev nD → Valuation τ sig (Elt F)) (c : Dev nD)

/-- The block of the argument at point `t`. -/
def xblk (t : Fin cfg0.N) : Vec F S256x4096 .f32 := ((cfg0.win 0).blk t).view.read (Elt F) (V c (Pipeline.arrRef spec0 0))

/-- The narrowed array is not named block by block but asked for. -/
def fg0 : Fin cfg0.W → Bool
  | ⟨1, _⟩ => true
  | _ => false

/-- What the result window holds after each point. -/
def rel0 : (w : Fin cfg0.W) → Fin cfg0.N → ((cfg0.win w).block.Idx → Elt F (cfg0.win w).elt) → Prop
  | ⟨1, _⟩ => fun t X => X = k0_pay1 (xblk V c t)
  | _ => fun _ _ => True

/-- Region 0's data: every array as entered with, the input staying in place. -/
def dat0 : Dat τ (Elt F) Unit ℕ (UR sig nD τ) ℕ cfg0 c where
  A w := V c (Pipeline.arrRef spec0 w)
  after
    | ⟨1, _⟩ => fun _ _ => Classical.arbitrary _
    | ⟨0, _⟩ => fun t => xblk V c t
  Φ _ := Pipeline.scopedRest spec0 c
  q _ := fullShare
  owed _ := 0

theorem before0_0 (t : Fin cfg0.N) (d) : (dat0 V c).before 0 t d = xblk V c t :=
  ((dat0 V c).before_in_eq_fetched 0 rfl (fun _ => rfl) (fun _ _ _ => rfl) (fun _ => rfl) t d).trans rfl

/-- The body obligation of the cast. -/
theorem body0 : Pipeline.BodyObligationRel (dat0 V c) (defs₀ (F := F)) Variants.none () Set.univ fg0 (rel0 V c) := fun t => by
  rw [bigSep_W0, bigSep_W0]
  simp only [show fg0 0 = false from rfl, show fg0 1 = true from rfl, before0_0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl]
  iintro ⟨HS, HO, ⟨%_, H1⟩, ⟨%D, %h, H2⟩⟩
  ihave H1 := (rep_of_owns _ _ _ _) $$ H1
  ihave H2 := (rep_of_owns _ _ _ _) $$ H2
  iapply (cast_run c (grid0.coords t) (win0_0.stage (cfg0.slots t 0)) (hstage0_0 ((cfg0.slots t 0).cast nbuf0_0)) (win0_1.stage (cfg0.slots t 1))
    (hstage0_1 ((cfg0.slots t 1).cast nbuf0_1)) (xblk V c t) D Set.univ _) $$ [HS HO H1 H2]
  isplitl [H1]; · iexact H1
  isplitl [H2]; · iexact H2
  iintro H1 H2
  isplitl [HS]; · iexact HS
  isplitl [HO]; · iexact HO
  isplitl [H1]; · iapply (owns_of_rep _ _ _ _) $$ H1
  iexists (k0_pay1 (xblk V c t))
  isplitr
  · ipureintro
    exact (rfl : k0_pay1 (xblk V c t) = k0_pay1 (xblk V c t))
  · iapply (owns_of_rep _ _ _ _) $$ H2

theorem index0_0 : ∀ t : Fin grid0.N, win0_0.index t 0 = t.val ∧ win0_0.index t 1 = 0 := by decide +kernel
theorem index0_1 : ∀ t : Fin grid0.N, win0_1.index t 0 = t.val ∧ win0_1.index t 1 = 0 := by decide +kernel
theorem flush0_1' : ∀ t : Fin grid0.N, win0_1.flush t = true := by decide +kernel

/-- The argument, narrowed. -/
def narrowed : Vec F S2048x4096 .bf16 := truncf .bf16 (V c main_arg0 : FVec F S2048x4096 .f32) bitsLt_bf16_f32

/-- What the region leaves in the narrowed array. -/
theorem final0 (A) (hA : ((dat0 V c).toRRel fg0 (rel0 V c)).ArrAt 1 cfg0.N A) : A = narrowed V c := by
  refine final (p := 0) (dat0 V c) fg0 (rel0 V c) 1 rfl (narrowed V c) (fun t _ X hX => ?_) (fun i => ?_) A hA
  · obtain rfl : X = k0_pay1 (xblk V c t) := hX
    funext y
    rw [View.read_apply]
    refine congrArg (fun z => FloatOps.truncf .bf16 bitsLt_bf16_f32 (V c main_arg0 z)) ?_
    funext a
    refine Fin.ext ?_
    match a with
    | 0 => exact ((win0_0.rect_emb_val t y 0).trans (by rw [(index0_0 t).1])).trans ((win0_1.rect_emb_val t y 0).trans (by rw [(index0_1 t).1])).symm
    | 1 => exact ((win0_0.rect_emb_val t y 1).trans (by rw [(index0_0 t).2])).trans ((win0_1.rect_emb_val t y 1).trans (by rw [(index0_1 t).2])).symm
  · have hi : (i 0).val < 2048 := (i 0).isLt
    refine ⟨⟨(i 0).val / 256, Nat.lt_of_lt_of_eq (by omega) N_0.symm⟩, flush0_1' _, ?_⟩
    refine (ValueKit.mem_set_slice_whole_iff main_v0 (win0_1.rect _) i (win0_1.mem_rect_iff _ i)).mpr fun a => ?_
    match a with
    | 0 =>
      rw [(index0_1 _).1]
      show (i 0).val / 256 * 256 ≤ (i 0).val ∧ (i 0).val < (i 0).val / 256 * 256 + 256
      omega
    | 1 =>
      rw [(index0_1 _).2]
      refine ⟨by omega, ?_⟩
      show (i 1).val < 0 * 4096 + 4096
      exact (Nat.zero_mul 4096).symm ▸ (Nat.zero_add 4096).symm ▸ (i 1).isLt

end Zero

end Cert.Dend
end
end
-- ==== Proof.Run.lean ====
module

public import proofs.«01_k».proof.Proof.Region0

@[expose] public section

set_option maxRecDepth 16384

noncomputable section

namespace Cert.Dend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)

variable {F : FTy → Type} [FloatOps F]

local notation "𝕄" => MT nD τ sig Unit (Elt F) ℕ (UR sig nD τ) ℕ

variable (m : (ℓ : Loc nD τ sig) → Buf (Elt F) ℓ)

/-! ## The unscoped buffers between the items -/

/-- At launch, -/
abbrev U0 (c : Dev nD) : Valuation τ sig (Elt F) := fun b => m (c, b)
/-- after the cast, -/
def U1 (c : Dev nD) : Valuation τ sig (Elt F) := Function.update (U0 m c) main_v0 (narrowed (U0 m) c)
/-- after the first host stretch, -/
def U2 (c : Dev nD) : Valuation τ sig (Elt F) := StableHlo.after hostOps1 (U1 m c)
/-- after the main region, -/
def U3 (c : Dev nD) : Valuation τ sig (Elt F) :=
  Function.update (Function.update (U2 m c) main_v12_0 (dend (U2 m) c)) main_v12_1 (somata (U2 m) c)
/-- and at the end. -/
def U4 (c : Dev nD) : Valuation τ sig (Elt F) := StableHlo.after hostOps2 (U3 m c)

/-- Both regions' data. -/
def D : Data F
  | ⟨0, _⟩ => fun c => dat0 (U0 m) c
  | ⟨1, _⟩ => fun c => dat1 (U2 m) c

/-- The windows that are asked for rather than named. -/
def fgs : (p : Fin 2) → Fin (cfgs p).W → Bool
  | ⟨0, _⟩ => fg0
  | ⟨1, _⟩ => fg1

/-- What is asked of them. -/
def rels : Rel F
  | ⟨0, _⟩ => fun c => rel0 (U0 m) c
  | ⟨1, _⟩ => fun c => rel1 (U2 m) c

/-- The cast changes nothing but its result. -/
theorem U1_in (c : Dev nD) (d : DevRef τ sig) (h : d ≠ main_v0) : U1 m c d = U0 m c d := Function.update_of_ne h _ _

/-- The narrowed argument after the cast. -/
theorem U1_cast (c : Dev nD) : U1 m c main_v0 = narrowed (U0 m) c := Function.update_self _ _ _

/-- The dendrite array after the main region. -/
theorem U3_dend (c : Dev nD) : U3 m c main_v12_0 = dend (U2 m) c := by
  unfold U3
  rw [Function.update_of_ne (show (main_v12_0 : DevRef τ sig) ≠ main_v12_1 by decide), Function.update_self]

/-- The soma array after the main region. -/
theorem U3_soma (c : Dev nD) : U3 m c main_v12_1 = somata (U2 m) c := Function.update_self _ _ _

/-- The cast's record. -/
def rec0 : Pipeline.RDat.RegionSeg (pcfgs (F := F)) adm (rel (D m) fgs (rels m)) () defs₀ Variants.none (fun _ => ∅) (fun _ _ => 0) 0 :=
  record (D m) fgs (rels m) 0 launch0 (by decide) (fun c => body0 (U0 m) c) (fun _ _ => rfl) (fun _ => rfl) (fun c w => (D m 0 c).share_full (fun _ => rfl) w)
    (fun _ => .rfl) (fun _ => .rfl) (U0 m) (U1 m) (fun _ _ => rfl)
    (fun c A hA w => by
      match w with
      | 0 =>
        have h := hA 0
        rw [RDat.ArrAt_in _ 0 rfl] at h
        refine h.trans ?_
        exact (U1_in m c main_arg0 (by decide)).symm
      | 1 =>
        refine (final0 (U0 m) c _ (hA 1)).trans ?_
        exact (U1_cast m c).symm)
    (fun c d hd => Function.update_of_ne (fun h => hd (by rw [h]; decide)) _ _)

/-- An array of the main region that is only read is not one of the two results. -/
theorem U3_in (c : Dev nD) (d : DevRef τ sig) (h0 : d ≠ main_v12_0) (h1 : d ≠ main_v12_1) : U3 m c d = U2 m c d := by
  unfold U3
  rw [Function.update_of_ne h1, Function.update_of_ne h0]

theorem in_eq (c : Dev nD) (w : Fin cfg1.W) (hin : (cfg1.win w).isOut = false) (A) (hA : ((dat1 (U2 m) c).toRRel fg1 (rel1 (U2 m) c)).ArrAt w cfg1.N A)
    (h0 : Proc.devRef .tc (Pipeline.arrRef spec1 w) ≠ (main_v12_0 : DevRef τ sig)) (h1 : Proc.devRef .tc (Pipeline.arrRef spec1 w) ≠ (main_v12_1 : DevRef τ sig)) :
    A = U3 m c (Proc.devRef .tc (Pipeline.arrRef spec1 w)) := by
  rw [RDat.ArrAt_in _ w hin] at hA
  exact hA.trans (U3_in m c _ h0 h1).symm

/-- The main region's record. -/
def rec1 : Pipeline.RDat.RegionSeg (pcfgs (F := F)) adm (rel (D m) fgs (rels m)) () defs₀ Variants.none (fun _ => ∅) (fun _ _ => 0) 1 :=
  record (D m) fgs (rels m) 1 launch1 (by decide) (fun c => body1 (U2 m) c) (fun _ _ => rfl) (fun _ => rfl) (fun c w => (D m 1 c).share_full (fun _ => rfl) w)
    (fun c => in1 (U2 m) c) (fun c => out1 (U2 m) c) (U2 m) (U3 m) (fun _ _ => rfl)
    (fun c A hA w => by
      match w with
      | 0 => exact in_eq m c 0 rfl _ (hA 0) (by decide) (by decide)
      | 1 => exact in_eq m c 1 rfl _ (hA 1) (by decide) (by decide)
      | 2 => exact in_eq m c 2 rfl _ (hA 2) (by decide) (by decide)
      | 3 => exact in_eq m c 3 rfl _ (hA 3) (by decide) (by decide)
      | 4 => exact in_eq m c 4 rfl _ (hA 4) (by decide) (by decide)
      | 5 => exact in_eq m c 5 rfl _ (hA 5) (by decide) (by decide)
      | 6 =>
        refine (final6 (U2 m) c _ (hA 6)).trans ?_
        exact (U3_dend m c).symm
      | 7 =>
        refine (final7 (U2 m) c _ (hA 7)).trans ?_
        exact (U3_soma m c).symm)
    (fun c d hd => U3_in m c d (fun h => hd (by rw [h]; decide)) (fun h => hd (by rw [h]; decide)))

/-- The host stretch before the main region. -/
def host1 : HostSeg (Ix := Unit) (Name := ℕ) (U := UR sig nD τ) (Lvl := ℕ) (pcfgs (F := F)) defs₀ Variants.none (fun _ => ∅) (fun _ _ => 0) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) ride
/-- The host stretch after it. -/
def host2 : HostSeg (Ix := Unit) (Name := ℕ) (U := UR sig nD τ) (Lvl := ℕ) (pcfgs (F := F)) defs₀ Variants.none (fun _ => ∅) (fun _ _ => 0) :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) ride

/-- The program as its four items. -/
abbrev items (_ : Dev nD) : List (Pipeline.RDat.Seg (pcfgs (F := F)) adm (rel (D m) fgs (rels m)) () defs₀ Variants.none (fun _ => ∅) (fun _ _ => 0)) :=
  [.region (rec0 m), .host (host1 m), .region (rec1 m), .host (host2 m)]

/-- A reference that no item writes holds at the end what it held at launch. -/
theorem U4_arg (c : Dev nD) (r : Ref sig .tc) (h : r ∉ hostOps2_W) (h' : r ∉ hostOps1_W) (h0 : r ≠ main_v0) (h1 : r ≠ main_v12_0) (h2 : r ≠ main_v12_1) :
    U4 m c r = m ((c : Thread nD τ).loc r) :=
  (StableHlo.after_of_writes_sub hostOps2 _ hostOps2_writes h).trans <|
    (U3_in m c r (StableHlo.devRef_ne_of_ne h1) (StableHlo.devRef_ne_of_ne h2)).trans <|
      (StableHlo.after_of_writes_sub hostOps1 _ hostOps1_writes h').trans (Function.update_of_ne (StableHlo.devRef_ne_of_ne h0) _ _)

/-- What a core starts with is the unscoped buffers as launched and what rides along. -/
theorem start (ρ : Dev nD → PrngReg) (c : Dev nD) :
    iprop(unscopedBufs c (fun b => m ((c.tc : Thread nD τ).loc b)) ∗ unscopedSems0 c ∗ owes (c.tc : Thread nD τ) (0 : CellTallies nD τ sig Unit) ∅
        ∗ Pipeline.launchCred (fun _ => 0) c ∗ prngReg c (ρ c) ∗ emp)
      ⊢ (iprop(StableHlo.held (c : Thread nD τ) (Pipeline.ucRefs τ sig) (U0 m c) ∗ ride c) : sProp 𝕄) := by
  rw [← Pipeline.unscopedBufs_held (Ix := Unit) (Name := ℕ) (U := UR sig nD τ) (Lvl := ℕ) c (U0 m c)]
  iintro ⟨Hh, -, HO, -, Hp, -⟩
  isplitl [Hh]; · iexact Hh
  isplitl [Hp]; · iexists (ρ c); iexact Hp
  iexists ∅
  iexact HO

/-- And so on every core. -/
theorem starts (ρ : Dev nD → PrngReg) :
    (bigSep Finset.univ fun c : Dev nD => iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ emp))
      ⊢ (bigSep Finset.univ fun c : Dev nD => iprop(StableHlo.held (c : Thread nD τ) (Pipeline.ucRefs τ sig) (U0 m c) ∗ ride c) : sProp 𝕄) :=
  bigSep_mono fun c _ => start m ρ c

set_option backward.isDefEq.respectTransparency.types false in
/-- Every weakly fair run from zero counters ends, with every unscoped buffer at `U4` and every counter at zero. -/
theorem run (ρ : Dev nD → PrngReg) : θ_run defs (onTc (τ := τ) (main (F := F))) ⟨m, fun _ => 0, ρ⟩ (fun r =>
    (∀ c : Dev nD, ∀ b : Ref sig .tc, b.isScoped = false → r.2.mem ((c.tc : Thread nD τ).loc b) = U4 m c b) ∧ r.2.sem = fun _ => 0) := by
  refine Pipeline.RDat.θ_run_regions_kit_dev_sems (pcfgs (F := F)) adm (rel (D m) fgs (rels m)) () cellOf_inj emb₁ defs₀ Variants.none (fun _ => ∅) (fun _ _ => 0) m ρ main
    (items m)
    (fun c Q => by
      rewrite [main_chain c, Pipeline.RDat.Seg.run_eq_chain,
        show (items m c).map Pipeline.RDat.Seg.prog = [
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.RDat.Seg.pipes_host, Pipeline.RDat.Seg.pipes_region, Pipeline.RDat.Seg.pipes_nil]; decide) (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (U0 m c) ∗ ride c))
    (Tₙ := fun c => StableHlo.held (c : Thread nD τ) (Pipeline.ucRefs τ sig) (U4 m c))
    (hch := fun c => ⟨.rfl, .rfl, .rfl, .rfl, sep_mono .rfl (by iintro ⟨-, H⟩; iexact H)⟩)
    (hinit := ?_) (QY := fun c s => ∀ b : Ref sig .tc, b.isScoped = false → s.mem ((c.tc : Thread nD τ).loc b) = U4 m c b)
    (hfin := fun c s' => ?_) (hQ := fun _ h hz => ⟨h, funext fun g => hz g (.inr (regions_no_unscoped g.2))⟩)
  · rw [ownU_emb₁]
    iintro H
    imodintro
    isplitl [H]; · iexact H
    iapply (show (BI.emp : sProp 𝕄) ⊢ bigSep Finset.univ (fun _ : Dev nD => (BI.emp : sProp 𝕄)) from by rw [BI.bigSep_emp_const])
    iempintro
  · iintro ⟨H, -⟩
    ihave H' := (starts m ρ) $$ H
    imodintro
    iexact H'
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simpa using hb⟩)
    · iexact HSI

end Cert.Dend
end
end
-- ==== Proof.Frames.lean ====
module

public import proofs.«01_k».proof.Defs
public import proofs.«01_k».proof.Proof.Run
public import proofs.«01_k».proof.Proof.Gen.Kernel

@[expose] public section

set_option maxRecDepth 100000

noncomputable section

namespace Cert.Dend

open Idealize.ShloMosaic Idealize.SL.Sem

variable {F : FTy → Type} [FloatOps F]

/-! ## The program as compiled and the idealized program are one program at every float instance -/

abbrev kf : Cert.Kernel.Facts := Cert.Kernel.Gen.facts
abbrev kif : Cert.KernelIdeal.Facts := Cert.KernelIdeal.Gen.facts

/-- Their entry points are the same, -/
theorem same_main : @Cert.Kernel.main F _ kf = @Cert.KernelIdeal.main F _ kif := rfl

/-- their bodies are the same, -/
theorem same_bodies : @Cert.Kernel.defs₀ F _ kf = @Cert.KernelIdeal.defs₀ F _ kif := by
  unfold Cert.Kernel.defs₀ Cert.KernelIdeal.defs₀
  congr 1
  funext l x
  match l, x with
  | 0, (t, s) => rfl
  | 1, (t, s) => rfl

/-- and so are their definitions. -/
theorem same_defs : @Cert.Kernel.defs F _ kf = @Cert.KernelIdeal.defs F _ kif := by
  unfold Cert.Kernel.defs Cert.KernelIdeal.defs
  exact congrArg (Pipeline.defs (@Cert.KernelIdeal.pcfgs F kif)) (same_bodies (F := F))

/-- A memory that holds the final contents holds the arguments as launched. -/
theorem args_kept (m : (ℓ : Loc Cert.KernelIdeal.nD Cert.KernelIdeal.τ Cert.KernelIdeal.sig) → Buf (Elt F) ℓ) (c : Dev Cert.KernelIdeal.nD)
    (mem : (ℓ : Loc Cert.KernelIdeal.nD Cert.KernelIdeal.τ Cert.KernelIdeal.sig) → Buf (Elt F) ℓ)
    (h : ∀ b : Ref Cert.KernelIdeal.sig .tc, b.isScoped = false → mem ((c.tc : Thread Cert.KernelIdeal.nD Cert.KernelIdeal.τ).loc b) = U4 m c (Proc.devRef .tc b)) :
      mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5) := by
  have kept : ∀ b : Ref Cert.KernelIdeal.sig .tc, b.isScoped = false → b ∉ Cert.KernelIdeal.Gen.hostOps2_W → b ∉ Cert.KernelIdeal.Gen.hostOps1_W → b ≠ Cert.KernelIdeal.main_v0 →
      b ≠ Cert.KernelIdeal.main_v12_0 → b ≠ Cert.KernelIdeal.main_v12_1 → mem ((c.tc : Thread Cert.KernelIdeal.nD Cert.KernelIdeal.τ).loc b) = m ((c.tc : Thread Cert.KernelIdeal.nD Cert.KernelIdeal.τ).loc b) :=
    fun b hb h2 h1 h0 hd hs => (h b hb).trans (U4_arg m c b h2 h1 h0 hd hs)
  refine ⟨kept _ ?_ ?_ ?_ ?_ ?_ ?_, kept _ ?_ ?_ ?_ ?_ ?_ ?_, kept _ ?_ ?_ ?_ ?_ ?_ ?_, kept _ ?_ ?_ ?_ ?_ ?_ ?_, kept _ ?_ ?_ ?_ ?_ ?_ ?_, kept _ ?_ ?_ ?_ ?_ ?_ ?_⟩
  all_goals decide

/-- The idealized program's frame, at every float instance. -/
theorem frame_any (m : (ℓ : Loc Cert.KernelIdeal.nD Cert.KernelIdeal.τ Cert.KernelIdeal.sig) → Buf (Elt F) ℓ) (g : Dev Cert.KernelIdeal.nD → PrngReg) :
    θ_run (@Cert.KernelIdeal.defs F _ kif) (onTc (τ := Cert.KernelIdeal.τ) (@Cert.KernelIdeal.main F _ kif)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) := by
  exact (θ_run _ _ _).mono (fun r h => ⟨fun c => args_kept m c r.2.mem (h.1 c), h.2⟩) (run m g)

/-- The idealized program's frame. -/
theorem frame_ideal : Cert.quiescent_KernelIdeal (hKernelIdeal := kif) := fun m g _ => frame_any m g

/-- The compiled program's frame, read off the idealized program's at the bit patterns. -/
theorem frame_compiled : Cert.quiescent_Kernel (hKernel := kf) := fun m g _ =>
  (congrArg₂ (fun d (p : Dev Cert.KernelIdeal.nD → _) => θ_run d (onTc (τ := Cert.KernelIdeal.τ) p) ⟨m, fun _ => 0, g⟩ _) (same_defs (F := Bits)) (same_main (F := Bits))).mpr (frame_any (F := Bits) m g)

end Cert.Dend
end
end
-- ==== Proof.Spec.lean ====
module

public import Idealize.ShloMosaic.PureOps.Ideal.Laws
public import Idealize.ShloMosaic.Lib.ValueIdxCore
public import Idealize.ShloMosaic.Lib.IdealHost

@[expose] public section

noncomputable section

namespace Cert.Dend

open Idealize.ShloMosaic
open Idealize.ShloMosaic.ValueIdx (ix1 ix2 ix3)

/-! ## What both programs compute, written over the extended reals

`X` are the inputs, `I` the eight input cells each dendrite samples, `W` the weights of those samples, `B` the
dendrites' biases, `C` the cable weights of the eight branches of a soma and `S` the somas' biases. -/

/-- A matrix and a vector of extended reals or of words. -/
abbrev Mat (α : Type) (M N : Nat) : Type := (⟨2, ![M, N]⟩ : Shape).Idx → α
abbrev Row (α : Type) (N : Nat) : Type := (⟨1, ![N]⟩ : Shape).Idx → α

/-- The slope of the leaky rectifier on the negative side. -/
def slope : EReal := Ideal.ofBits .f32 0x3DCCCCCD#32

/-- The slope lies between zero and one. -/
theorem slope_pos : 0 < slope := by
  simp [slope, Ideal.ofBits, Ideal.ieee, -EReal.coe_mul]

theorem slope_lt_one : slope < 1 := by
  simp [slope, Ideal.ofBits, Ideal.ieee, -EReal.coe_mul]; norm_cast; norm_num

/-- The leaky rectifier. -/
def leaky (v : EReal) : EReal := if 0 ≤ v then v else slope * v

/-- The larger of a value and its scaled copy is the leaky rectifier: the slope is positive and below one. -/
theorem max_leaky (v : EReal) : max v (slope * v) = leaky v := by
  unfold leaky
  split
  · rename_i h
    refine max_eq_left ?_
    calc slope * v ≤ 1 * v := mul_le_mul_of_nonneg_right slope_lt_one.le h
      _ = v := one_mul v
  · rename_i h
    refine max_eq_right ?_
    have h : v ≤ 0 := (not_le.1 h).le
    have h0 : 0 ≤ -v := EReal.neg_nonneg.2 h
    have h1 : slope * (-v) ≤ 1 * (-v) := mul_le_mul_of_nonneg_right slope_lt_one.le h0
    rw [one_mul, mul_neg] at h1
    exact EReal.neg_le_neg_iff.1 h1

/-- The input cell that sample `s` of dendrite `d` reads. -/
def cell (I : Mat (BitVec 32) 8192 8) (d : Fin 8192) (s : Fin 8) : Fin 4096 :=
  ⟨min (I (ix2 d s)).toNat 4095, by omega⟩

/-- The activation of dendrite `d` for batch row `b`. -/
def act (X : Mat EReal 2048 4096) (I : Mat (BitVec 32) 8192 8) (W : Mat EReal 8192 8) (B : Row EReal 8192)
    (b : Fin 2048) (d : Fin 8192) : EReal :=
  leaky ((∑ s : Fin 8, X (ix2 b (cell I d s)) * W (ix2 d s)) + B (ix1 d))

/-- Branch `r` of soma `m` as a dendrite. -/
def branch (m : Fin 1024) (r : Fin 8) : Fin 8192 := ⟨m.val * 8 + r.val, by omega⟩

/-- The activation of soma `m` for batch row `b`. -/
def fire (X : Mat EReal 2048 4096) (I : Mat (BitVec 32) 8192 8) (W : Mat EReal 8192 8) (B : Row EReal 8192)
    (C : Mat EReal 1024 8) (S : Row EReal 1024) (b : Fin 2048) (m : Fin 1024) : EReal :=
  leaky ((∑ r : Fin 8, act X I W B b (branch m r) * C (ix2 m r)) + S (ix1 m))

/-- What the preconditions say: every sampled cell exists, and inputs and weights are finite. -/
structure Fit (X : Mat EReal 2048 4096) (I : Mat (BitVec 32) 8192 8) (W : Mat EReal 8192 8) : Prop where
  cells : ∀ d s, (I (ix2 d s)).toNat < 4096
  inputs : ∀ b i, X (ix2 b i) ≠ ⊤ ∧ X (ix2 b i) ≠ ⊥
  weights : ∀ d s, W (ix2 d s) ≠ ⊤ ∧ W (ix2 d s) ≠ ⊥

theorem cell_val {I : Mat (BitVec 32) 8192 8} (h : ∀ d s, (I (ix2 d s)).toNat < 4096) (d : Fin 8192) (s : Fin 8) :
    (cell I d s).val = (I (ix2 d s)).toNat := by
  have := h d s
  show min _ _ = _
  omega

end Cert.Dend

end
-- ==== Proof.Sums.lean ====
module

public import proofs.«01_k».proof.Proof.Spec

@[expose] public section

noncomputable section

namespace Cert.Dend

/-! ## Two sums -/

/-- A sum of reals as a sum of extended reals. -/
theorem coe_total {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A family of finite extended reals is a family of reals. -/
theorem reals {ι : Type} (x : ι → EReal) (h : ∀ i, x i ≠ ⊤ ∧ x i ≠ ⊥) : ∃ f : ι → ℝ, (fun i => (f i : EReal)) = x :=
  ⟨fun i => (x i).toReal, funext fun i => EReal.coe_toReal (h i).1 (h i).2⟩

/-- The product of a row with a column that holds, at each position, the weights sent there, is the sum over the weights
    of the row's entry at the position times the weight. -/
theorem gather {n k : ℕ} (x : Fin n → EReal) (w : Fin k → EReal) (p : Fin k → Fin n) (hx : ∀ i, x i ≠ ⊤ ∧ x i ≠ ⊥) (hw : ∀ s, w s ≠ ⊤ ∧ w s ≠ ⊥) :
    ∑ i, x i * (∑ s, if p s = i then w s else 0) = ∑ s, x (p s) * w s := by
  obtain ⟨x, rfl⟩ := reals x hx
  obtain ⟨w, rfl⟩ := reals w hw
  have h : ∀ i, (∑ s, if p s = i then ((w s : ℝ) : EReal) else 0) = ((∑ s, if p s = i then w s else 0 : ℝ) : EReal) := fun i => by
    rw [coe_total]
    refine Finset.sum_congr rfl fun s _ => ?_
    split
    · rfl
    · exact EReal.coe_zero.symm
  simp only [h, ← EReal.coe_mul, ← coe_total]
  refine congrArg _ ?_
  simp only [Finset.mul_sum, mul_ite, mul_zero]
  rw [Finset.sum_comm]
  refine Finset.sum_congr rfl fun s _ => ?_
  rw [Finset.sum_ite_eq, if_pos (Finset.mem_univ _)]

/-- The sum over 512 positions of those in the `n`-th group of eight. -/
theorem eights (y : Fin 512 → EReal) (n : Fin 64) :
    ∑ d : Fin 512, y d * (if d.val / 8 = n.val then 1 else 0) = ∑ r : Fin 8, y ⟨n.val * 8 + r.val, by omega⟩ := by
  rw [← Equiv.sum_comp (finProdFinEquiv (m := 64) (n := 8)), Fintype.sum_prod_type, Finset.sum_eq_single n]
  · refine Finset.sum_congr rfl fun r _ => ?_
    have e : (finProdFinEquiv (n, r) : Fin 512).val = r.val + 8 * n.val := rfl
    rw [if_pos (by rw [e]; omega), mul_one]
    refine congrArg y (Fin.ext ?_)
    rw [e]
    show r.val + 8 * n.val = n.val * 8 + r.val
    omega
  · intro q _ hq
    refine Finset.sum_eq_zero fun r _ => ?_
    have e : (finProdFinEquiv (q, r) : Fin 512).val = r.val + 8 * q.val := rfl
    have : q.val ≠ n.val := fun h => hq (Fin.ext h)
    rw [if_neg (by rw [e]; omega), mul_zero]
  · exact fun h => absurd (Finset.mem_univ n) h

end Cert.Dend

end
-- ==== Proof.Dedup.lean ====
module

public import Idealize.ShloMosaic.PureOps.Ideal.Laws
public import Idealize.ShloMosaic.Lib.IdealHost
public import Idealize.ShloMosaic.Lib.Affine

@[expose] public section

noncomputable section

namespace Cert.Dend

open Idealize.ShloMosaic

/-- The equality test of equal words, -/
theorem test_self {n : ℕ} (x : BitVec n) : IntOp.cmpi .eq x x = 1#1 := by
  rw [IntOp.cmpi_eq]

/-- and of different words. -/
theorem test_ne {n : ℕ} {x y : BitVec n} (h : x ≠ y) : IntOp.cmpi .eq x y = 0#1 :=
  (BitVec.eq_zero_or_eq_one _).resolve_right fun q => h (IntOp.cmpi_eq.1 q)

/-- A choice by a true bit, -/
theorem choose_one {α : Type} (x y : α) : Scalar.select 1#1 x y = x := rfl

/-- and by a false one. -/
theorem choose_zero {α : Type} (x y : α) : Scalar.select 0#1 x y = y := rfl

/-! ## One column of a tile's matrix

A column has eight index words `a` and eight weights `w`. A row whose index appeared before is folded into the first row
of that index: the first row gains its weight and its own is cleared. Then the rows are laid over one another, so that
the entry at `v` is the weight of the first row of index `v`, which is the sum of the weights of all rows of that index. -/

variable (a : ℕ → BitVec 16) (w : ℕ → EReal) (z : EReal)

/-- Row `s` equals one of the rows before `e`, found by walking them in order. -/
def seen (s : ℕ) : ℕ → BitVec 1
  | 0 => 0#1
  | e + 1 => IntOp.ori (seen s e) (IntOp.andi (IntOp.cmpi .eq (a e) (a s)) (IntOp.xori (seen s e) 1#1))

/-- Row `s` is folded into row `e`: they are equal and no row before `e` took it. -/
def joins (s e : ℕ) : BitVec 1 := IntOp.andi (IntOp.cmpi .eq (a e) (a s)) (IntOp.xori (seen a s e) 1#1)

/-- The weight of row `e` after the `n` rows that follow it have been looked at; `z` is the zero. -/
def weight (e : ℕ) : ℕ → EReal
  | 0 => if e = 0 then w e else Scalar.select (seen a e e) z (w e)
  | n + 1 => weight e n + Scalar.select (joins a (e + 1 + n) e) (w (e + 1 + n)) z

/-- The `k` rows from `e` on laid over one another, read at `v`. -/
def over (v : BitVec 16) : ℕ → ℕ → EReal
  | _, 0 => z
  | e, k + 1 => Scalar.select (IntOp.cmpi .eq v (a e)) (weight a w z e k) (over v (e + 1) k)

variable {a}

/-- A row of index `v` is not taken by rows of other indices. -/
theorem seen_eq_zero {v : BitVec 16} {s : ℕ} (hs : a s = v) : ∀ e, (∀ i < e, a i ≠ v) → seen a s e = 0#1
  | 0, _ => rfl
  | e + 1, h => by
    have he : IntOp.cmpi .eq (a e) (a s) = 0#1 := test_ne (hs.symm ▸ h e (Nat.lt_succ_self e))
    show IntOp.ori (seen a s e) (IntOp.andi (IntOp.cmpi .eq (a e) (a s)) (IntOp.xori (seen a s e) 1#1)) = 0#1
    rw [he, seen_eq_zero hs e fun i hi => h i (Nat.lt_succ_of_lt hi)]
    decide

/-- The first row of index `v` gains the weight of every later row of that index. -/
theorem select_joins {v : BitVec 16} {e : ℕ} (he : a e = v) (h : ∀ i < e, a i ≠ v) (s : ℕ) (x : EReal) :
    Scalar.select (joins a s e) x (0 : EReal) = if a s = v then x else 0 := by
  unfold joins
  by_cases hs : a s = v
  · rw [seen_eq_zero hs e h, he, hs, test_self, if_pos rfl]
    rfl
  · rw [he, test_ne fun q => hs q.symm, if_neg hs, show ∀ b, IntOp.andi 0#1 b = 0#1 from by decide, choose_zero]

/-- So the first row of index `v` ends up with the sum of the weights of the rows of that index. -/
theorem weight_eq {v : BitVec 16} {e : ℕ} (he : a e = v) (h : ∀ i < e, a i ≠ v) :
    ∀ n, weight a w 0 e n = w e + ∑ t ∈ Finset.range n, if a (e + 1 + t) = v then w (e + 1 + t) else 0
  | 0 => by
    unfold weight
    rw [Finset.range_zero, Finset.sum_empty, add_zero, seen_eq_zero he e h]
    split <;> rfl
  | n + 1 => by
    unfold weight
    rw [weight_eq he h n, select_joins he h, Finset.sum_range_succ, add_assoc]

/-- The entry at `v` is the sum of the weights of the rows of index `v`. -/
theorem over_eq (v : BitVec 16) :
    ∀ k e, (∀ i < e, a i ≠ v) → over a w 0 v e k = ∑ t ∈ Finset.range k, if a (e + t) = v then w (e + t) else 0
  | 0, _, _ => rfl
  | k + 1, e, h => by
    unfold over
    rw [Finset.sum_range_succ']
    rw [Finset.sum_congr rfl fun t _ => show (if a (e + (t + 1)) = v then w (e + (t + 1)) else 0)
      = if a (e + 1 + t) = v then w (e + 1 + t) else 0 by rw [show e + (t + 1) = e + 1 + t by omega], show e + 0 = e from rfl]
    by_cases he : a e = v
    · rw [weight_eq w he h, he, test_self, choose_one, if_pos rfl, add_comm]
    · rw [test_ne fun q => he q.symm, choose_zero, if_neg he, add_zero, ← over_eq v k (e + 1) fun i hi => by
        rcases Nat.lt_succ_iff_lt_or_eq.1 hi with hi | rfl
        · exact h i hi
        · exact he]

end Cert.Dend

end
-- ==== Proof.Column.lean ====
module

public import proofs.«01_k».proof.Proof.Dedup
public import proofs.«01_k».proof.Proof.Body
public import Idealize.ShloMosaic.Lib.ValueIdx

@[expose] public section

set_option maxRecDepth 16384

noncomputable section

namespace Cert.Dend

open Cert.KernelIdeal Cert.KernelIdeal.Gen
open Idealize.ShloMosaic
open Idealize.ShloMosaic.ValueIdx (ix1 ix2 ix3)

/-! ## A tile's matrix, read at an index -/

/-- Eight things as a sequence. -/
def eight {α : Type} (x0 x1 x2 x3 x4 x5 x6 x7 : α) : ℕ → α
  | 0 => x0 | 1 => x1 | 2 => x2 | 3 => x3 | 4 => x4 | 5 => x5 | 6 => x6 | _ => x7

/-- A row laid over all rows, read at an index. -/
theorem spread {α : Type} (x : S1x512.Idx → α) (i : Fin 4096) (d : Fin 512) :
    broadcastTo S4096x512 x broadcasts_S1x512_S4096x512 (ix2 i d) = x (ix2 0 d) := by
  refine broadcastTo_apply x broadcasts_S1x512_S4096x512 (ix2 i d) (ix2 (0 : Fin 1) d) fun k => ?_
  match k with
  | ⟨0, _⟩ => rfl
  | ⟨1, _⟩ => rfl

/-- The test of a row's index against the matrix's row number, read at an index. -/
theorem hit (x : IVec S1x512 16) (i : Fin 4096) (d : Fin 512) :
    cmpi .eq (iota .tc S4096x512 16 [0] iota_S4096x512_d0_w16) (broadcastTo S4096x512 x broadcasts_S1x512_S4096x512) (ix2 i d)
      = IntOp.cmpi .eq (BitVec.ofNat 16 i.val) (x (ix2 0 d)) :=
  congrArg₂ (IntOp.cmpi .eq) (iota_single_apply .tc S4096x512 16 0 iota_S4096x512_d0_w16 (ix2 i d)) (spread x i d)

/-- One layer of the matrix, read at an index: where the row's index is the row number, the row's weight. -/
theorem layer (x : IVec S1x512 16) (y : FVec Ideal S1x512 .bf16) (rest : FVec Ideal S4096x512 .bf16) (i : Fin 4096) (d : Fin 512)
    {a : BitVec 16} {u r : EReal} (ha : x (ix2 0 d) = a) (hu : y (ix2 0 d) = u) (hr : rest (ix2 i d) = r) :
    select (cmpi .eq (iota .tc S4096x512 16 [0] iota_S4096x512_d0_w16) (broadcastTo S4096x512 x broadcasts_S1x512_S4096x512))
        (broadcastTo S4096x512 (shapeCast S1x512 y shapeCasts_S1x512_S1x512) broadcasts_S1x512_S4096x512) rest (ix2 i d)
      = Scalar.select (IntOp.cmpi .eq (BitVec.ofNat 16 i.val) a) u r := by
  rw [ValueIdx.select_apply, hit, spread, shapeCast_self, ha, hu, hr]

variable (v66 v69 v72 v75 v78 v81 v84 v87 : IVec S1x512 16) (v90 v93 v96 v99 v102 v105 v108 v111 : FVec Ideal S1x512 .bf16)

/-- Column `d` of the matrix is the column built from entry `d` of the sixteen rows. -/
theorem selMat_over (i : Fin 4096) (d : Fin 512) :
    selMat v66 v69 v72 v75 v78 v81 v84 v87 v90 v93 v96 v99 v102 v105 v108 v111 (ix2 i d)
      = over (eight (v66 (ix2 0 d)) (v69 (ix2 0 d)) (v72 (ix2 0 d)) (v75 (ix2 0 d)) (v78 (ix2 0 d)) (v81 (ix2 0 d)) (v84 (ix2 0 d)) (v87 (ix2 0 d)))
          (eight (v90 (ix2 0 d)) (v93 (ix2 0 d)) (v96 (ix2 0 d)) (v99 (ix2 0 d)) (v102 (ix2 0 d)) (v105 (ix2 0 d)) (v108 (ix2 0 d)) (v111 (ix2 0 d)))
          (FloatOps.ofBits (F := Ideal) .bf16 0x0000#16) (BitVec.ofNat 16 i.val) 0 8 := by
  unfold selMat k1_pay105
  refine layer _ _ _ i d rfl ?_ (layer _ _ _ i d rfl ?_ (layer _ _ _ i d rfl ?_ (layer _ _ _ i d rfl ?_ (layer _ _ _ i d rfl ?_
    (layer _ _ _ i d rfl ?_ (layer _ _ _ i d rfl ?_ (layer _ _ _ i d rfl ?_ rfl)))))))
  all_goals rfl

/-- Row `s` of a tile, cut out, flattened and laid down again, read at an index. -/
theorem row_apply {e : EltTy} (T : Vec Ideal S1x8x512 e) (s : Fin 8) (h : ∀ a, (![0, s.val, 0] : Fin 3 → ℕ) a + S1x1x512.size a ≤ S1x8x512.size a) (d : Fin 512) :
    shapeCast S1x512 (shapeCast S512 (VecWindow.window (s := S1x8x512) T ![0, s.val, 0] S1x1x512.size h) shapeCasts_S1x1x512_S512)
      shapeCasts_S512_S1x512 (ix2 0 d) = T (ix3 0 s d) := by
  rw [shapeCast_apply _ _ (ix2 (0 : Fin 1) d) (ix1 d) (by rw [Shape.rowMajor_val_one, Shape.rowMajor_val_two]; show d.val = 0 * 512 + d.val; omega),
    shapeCast_apply _ _ (ix1 d) (ix3 (0 : Fin 1) (0 : Fin 1) d)
      (by rw [Shape.rowMajor_val_three, Shape.rowMajor_val_one]; show (0 * 1 + 0) * 512 + d.val = d.val; omega)]
  refine congrArg T (funext fun k => Fin.ext ?_)
  match k with
  | ⟨0, _⟩ => rfl
  | ⟨1, _⟩ => show s.val + 1 * 0 = s.val; omega
  | ⟨2, _⟩ => show 0 + 1 * d.val = d.val; omega

/-- A summand from its index word and its weight. -/
theorem entry {a a' v : BitVec 16} {w w' : EReal} (ha : a = a') (hw : w = w') : (if a = v then w else 0) = if a' = v then w' else 0 := by
  rw [ha, hw]

/-- Entry `(i, d)` of a tile's matrix: the sum of the weights of column `d` whose index word is `i`. -/
theorem matOf_apply (I : Vec Ideal S1x8x512 .i16) (W : Vec Ideal S1x8x512 .bf16) (i : Fin 4096) (d : Fin 512) :
    matOf (F := Ideal) I W (ix2 i d)
      = ∑ s : Fin 8, if I (ix3 0 s d) = BitVec.ofNat 16 i.val then (W (ix3 0 s d) : EReal) else 0 := by
  unfold matOf
  rw [selMat_over, show FloatOps.ofBits (F := Ideal) .bf16 0x0000#16 = (0 : EReal) from Ideal.ofBits_zero_bf16,
    over_eq _ _ 8 0 fun i hi => absurd hi (Nat.not_lt_zero i), Fin.sum_univ_eight]
  simp only [Finset.sum_range_succ, Finset.sum_range_zero, zero_add, Nat.zero_add, eight, k1_pay5, k1_pay6, k1_pay7, k1_pay8, k1_pay9, k1_pay10,
    k1_pay11, k1_pay12, k1_pay13, k1_pay14, k1_pay15, k1_pay16, k1_pay17, k1_pay18, k1_pay19, k1_pay20]
  have t (s : Fin 8) := fun h => entry (row_apply I s h d) (row_apply W s h d) (v := BitVec.ofNat 16 i.val)
  exact congrArg₂ HAdd.hAdd (congrArg₂ HAdd.hAdd (congrArg₂ HAdd.hAdd (congrArg₂ HAdd.hAdd (congrArg₂ HAdd.hAdd (congrArg₂ HAdd.hAdd
      (congrArg₂ HAdd.hAdd (t 0 inb_S1x8x512_S1x1x512_0_0_0) (t 1 inb_S1x8x512_S1x1x512_0_1_0)) (t 2 inb_S1x8x512_S1x1x512_0_2_0)) (t 3
      inb_S1x8x512_S1x1x512_0_3_0)) (t 4 inb_S1x8x512_S1x1x512_0_4_0)) (t 5 inb_S1x8x512_S1x1x512_0_5_0)) (t 6
      inb_S1x8x512_S1x1x512_0_6_0)) (t 7 inb_S1x8x512_S1x1x512_0_7_0)

end Cert.Dend

end
-- ==== Proof.Tile.lean ====
module

public import proofs.«01_k».proof.Proof.Sums
public import proofs.«01_k».proof.Proof.Column
public import proofs.«01_k».proof.Proof.Region1
public import Idealize.ShloMosaic.Lib.MatmulPlain

@[expose] public section

set_option maxRecDepth 16384

noncomputable section

namespace Cert.Dend

open Cert.KernelIdeal Cert.KernelIdeal.Gen
open Idealize.ShloMosaic
open Idealize.ShloMosaic.ValueIdx (ix1 ix2 ix3)

/-! ## A point's two blocks, read at an index -/

/-- A tile's matrix is handed on with a unit dimension in front. -/
theorem fronted (Z : FVec Ideal S4096x512 .bf16) (i : Fin 4096) (d : Fin 512) : k1_pay1 (F := Ideal) Z (ix3 0 i d) = Z (ix2 i d) := by
  refine shapeCast_apply Z shapeCasts_S4096x512_S1x4096x512 (ix3 0 i d) (ix2 i d) ?_
  rw [Shape.rowMajor_val_two, Shape.rowMajor_val_three]
  show i.val * 512 + d.val = (0 * 4096 + i.val) * 512 + d.val
  omega

/-- A row of 512 with unit dimensions in front, laid over the batch rows. -/
theorem laid512 (v : Vec Ideal S1x1x512 .f32) (b : Fin 2048) (d : Fin 512) :
    broadcastTo S2048x512 (shapeCast S1x512 v shapeCasts_S1x1x512_S1x512) broadcasts_S1x512_S2048x512 (ix2 b d) = v (ix3 0 0 d) := by
  refine (broadcastTo_apply _ broadcasts_S1x512_S2048x512 (ix2 b d) (ix2 (0 : Fin 1) d) fun k => ?_).trans ?_
  · match k with
    | ⟨0, _⟩ => rfl
    | ⟨1, _⟩ => rfl
  · refine shapeCast_apply v shapeCasts_S1x1x512_S1x512 (ix2 0 d) (ix3 0 0 d) ?_
    rw [Shape.rowMajor_val_two, Shape.rowMajor_val_three]
    show (0 * 1 + 0) * 512 + d.val = 0 * 512 + d.val
    omega

/-- A row of 64, likewise. -/
theorem laid64 (v : Vec Ideal S1x1x64 .f32) (b : Fin 2048) (d : Fin 64) :
    broadcastTo S2048x64 (shapeCast S1x64 v shapeCasts_S1x1x64_S1x64) broadcasts_S1x64_S2048x64 (ix2 b d) = v (ix3 0 0 d) := by
  refine (broadcastTo_apply _ broadcasts_S1x64_S2048x64 (ix2 b d) (ix2 (0 : Fin 1) d) fun k => ?_).trans ?_
  · match k with
    | ⟨0, _⟩ => rfl
    | ⟨1, _⟩ => rfl
  · refine shapeCast_apply v shapeCasts_S1x1x64_S1x64 (ix2 0 d) (ix3 0 0 d) ?_
    rw [Shape.rowMajor_val_two, Shape.rowMajor_val_three]
    show (0 * 1 + 0) * 64 + d.val = 0 * 64 + d.val
    omega

/-- The zero word as a number. -/
theorem zero_f32 : (FloatOps.ofBits (F := Ideal) .f32 0x00000000#32 : EReal) = 0 := Ideal.ofBits_zero_f32

/-- A value against its scaled copy, read at an index. -/
theorem rectified {s : Shape} (v : FVec Ideal s .f32) (i : s.Idx) :
    maximumf v (mulf (broadcast s (Scalar.ofBits .f32 0x3DCCCCCD#32)) v) i = leaky (v i) := max_leaky (v i)

/-- A dendrite block at an index: the product's sum and the bias, rectified. -/
theorem pay2_apply (x : Vec Ideal S2048x4096 .bf16) (Z : Vec Ideal S1x4096x512 .bf16) (v : Vec Ideal S1x1x512 .f32) (b : Fin 2048) (d : Fin 512) :
    k1_pay2 (F := Ideal) x Z v (ix2 b d)
      = leaky ((∑ i : Fin 4096, (x (ix2 b i) : EReal) * (Z (ix3 0 i d) : EReal)) + (v (ix3 0 0 d) : EReal)) := by
  unfold k1_pay2
  refine (rectified _ _).trans (congrArg leaky (congrArg₂ (· + ·) ?_ (laid512 v b d)))
  refine (Ideal.matmul_plain_apply (M := 2048) (K := 4096) (N := 512) none _ _ _ b d).trans ?_
  refine (congrArg₂ (· + ·) zero_f32 (Finset.sum_congr rfl fun i _ => congrArg₂ (· * ·) ?_ ?_)).trans (zero_add _)
  · rw [shapeCast_self]
  · refine shapeCast_apply Z shapeCasts_S1x4096x512_S4096x512 (ix2 i d) (ix3 0 i d) ?_
    rw [Shape.rowMajor_val_two, Shape.rowMajor_val_three]
    show (0 * 4096 + i.val) * 512 + d.val = i.val * 512 + d.val
    omega

/-- A position's word shifted by three is the word of its group of eight. -/
theorem group : ∀ d : Fin 512, IntOp.shrsi .vector (BitVec.ofNat 32 d.val) 3#32 = BitVec.ofNat 32 (d.val / 8) := by decide +kernel

/-- The grouping mask at an index. -/
theorem pay3_apply (d : Fin 512) (n : Fin 64) : k1_pay3 (F := Ideal) (ix2 d n) = if d.val / 8 = n.val then (1 : EReal) else 0 := by
  unfold k1_pay3
  have e0 : iota .tc S512x64 32 [0] iota_S512x64_d0_w32 (ix2 d n) = BitVec.ofNat 32 d.val := iota_single_apply .tc S512x64 32 0 iota_S512x64_d0_w32 (ix2 d n)
  have e1 : iota .tc S512x64 32 [1] iota_S512x64_d1_w32 (ix2 d n) = BitVec.ofNat 32 n.val := iota_single_apply .tc S512x64 32 1 iota_S512x64_d1_w32 (ix2 d n)
  show Scalar.select (IntOp.cmpi .eq (IntOp.shrsi .vector (iota .tc S512x64 32 [0] iota_S512x64_d0_w32 (ix2 d n)) 3#32) (iota .tc S512x64 32 [1] iota_S512x64_d1_w32 (ix2 d n)))
    (Ideal.ofBits .f32 0x3F800000#32) (Ideal.ofBits .f32 0x00000000#32) = _
  rw [e0, e1, group, Ideal.ofBits_zero_f32, Ideal.ofBits_one_f32]
  split
  · rename_i h
    rw [h, test_self, choose_one]
  · rename_i h
    rw [test_ne (fun q => h ?_), choose_zero]
    have := congrArg BitVec.toNat q
    rw [BitVec.toNat_ofNat, BitVec.toNat_ofNat, Nat.mod_eq_of_lt (by omega), Nat.mod_eq_of_lt (by omega)] at this
    exact this

/-- A soma block at an index: the sum over the soma's eight branches of activation times cable weight and the bias, rectified. -/
theorem somaOf_apply (v : FVec Ideal S2048x512 .f32) (ca : Vec Ideal S1x1x512 .f32) (sb : Vec Ideal S1x1x64 .f32) (b : Fin 2048) (n : Fin 64) :
    somaOf (F := Ideal) v k1_pay3 ca sb (ix2 b n)
      = leaky ((∑ r : Fin 8, (v (ix2 b ⟨n.val * 8 + r.val, by omega⟩) : EReal) * (ca (ix3 0 0 ⟨n.val * 8 + r.val, by omega⟩) : EReal)) + (sb (ix3 0 0 n) : EReal)) := by
  unfold somaOf
  refine (rectified _ _).trans (congrArg leaky (congrArg₂ (· + ·) ?_ (laid64 sb b n)))
  refine (Ideal.matmul_plain_apply (M := 2048) (K := 512) (N := 64) none _ _ _ b n).trans ?_
  refine (congrArg₂ (· + ·) zero_f32 (Finset.sum_congr rfl fun d _ => congrArg₂ (· * ·) (?_ : _ = (v (ix2 b d) : EReal) * (ca (ix3 0 0 d) : EReal)) (pay3_apply d n))).trans
    ((zero_add _).trans (eights (fun d => (v (ix2 b d) : EReal) * (ca (ix3 0 0 d) : EReal)) n))
  exact congrArg ((v (ix2 b d) : EReal) * ·) (laid512 ca b d)

end Cert.Dend

end
-- ==== Proof.Reads.lean ====
module

public import proofs.«01_k».proof.Proof.Run
public import proofs.«01_k».proof.Proof.Tile

@[expose] public section

set_option maxRecDepth 16384

noncomputable section

namespace Cert.Dend

open Cert.KernelIdeal Cert.KernelIdeal.Gen
open Idealize.ShloMosaic Idealize.ShloMosaic.TcCoe Idealize.ShloMosaic.Tactic
open Idealize.ShloMosaic.ValueIdx (ix1 ix2 ix3)

/-! ## The blocks a point reads, by the program's arguments -/

/-- Column `d` of tile `n` as a dendrite. -/
abbrev col (n : Fin 16) (d : Fin 512) : Fin 8192 := ⟨n.val * 512 + d.val, by omega⟩

section Host

variable {α : Type}

/-- A matrix of eight columns cut into tiles: transposed, split by tile and the tiles put in front. -/
theorem tiled (x : S8192x8.Idx → α) (n : Fin 16) (s : Fin 8) (d : Fin 512) :
    transpose S16x8x512 [1, 0, 2] (shapeCast S8x16x512 (transpose S8x8192 [1, 0] x transposes_S8192x8_S8x8192_1_0) shapeCasts_S8x8192_S8x16x512)
        transposes_S8x16x512_S16x8x512_1_0_2 (ix3 n s d) = x (ix2 (col n d) s) := by
  refine (transpose_apply _ _ transposes_S8x16x512_S16x8x512_1_0_2 (ix3 n s d) (ix3 s n d) fun k => ?_).trans ?_
  · match k with
    | ⟨0, _⟩ => rfl
    | ⟨1, _⟩ => rfl
    | ⟨2, _⟩ => rfl
  refine (shapeCast_apply _ shapeCasts_S8x8192_S8x16x512 (ix3 s n d) (ix2 s (col n d)) ?_).trans ?_
  · rw [Shape.rowMajor_val_two, Shape.rowMajor_val_three]
    show s.val * 8192 + (n.val * 512 + d.val) = (s.val * 16 + n.val) * 512 + d.val
    omega
  · refine transpose_apply _ _ transposes_S8192x8_S8x8192_1_0 (ix2 s (col n d)) (ix2 (col n d) s) fun k => ?_
    match k with
    | ⟨0, _⟩ => rfl
    | ⟨1, _⟩ => rfl

/-- A vector of the dendrites cut into tiles. -/
theorem tiled_bias (x : S8192.Idx → α) (n : Fin 16) (d : Fin 512) :
    shapeCast S16x1x512 x shapeCasts_S8192_S16x1x512 (ix3 n 0 d) = x (ix1 (col n d)) := by
  refine shapeCast_apply _ shapeCasts_S8192_S16x1x512 (ix3 n 0 d) (ix1 (col n d)) ?_
  rw [Shape.rowMajor_val_one, Shape.rowMajor_val_three]
  show n.val * 512 + d.val = (n.val * 1 + 0) * 512 + d.val
  omega

/-- The branches of the somas cut into tiles: soma `n * 64 + q` has branches `q * 8` and on. -/
theorem tiled_cable (x : S1024x8.Idx → α) (n : Fin 16) (q : Fin 64) (r : Fin 8) :
    shapeCast S16x1x512 x shapeCasts_S1024x8_S16x1x512 (ix3 n 0 ⟨q.val * 8 + r.val, by omega⟩) = x (ix2 ⟨n.val * 64 + q.val, by omega⟩ r) := by
  refine shapeCast_apply _ shapeCasts_S1024x8_S16x1x512 (ix3 n 0 ⟨q.val * 8 + r.val, by omega⟩) (ix2 ⟨n.val * 64 + q.val, by omega⟩ r) ?_
  rw [Shape.rowMajor_val_two, Shape.rowMajor_val_three]
  show (n.val * 64 + q.val) * 8 + r.val = (n.val * 1 + 0) * 512 + (q.val * 8 + r.val)
  omega

/-- A vector of the somas cut into tiles. -/
theorem tiled_soma (x : S1024.Idx → α) (n : Fin 16) (q : Fin 64) :
    shapeCast S16x1x64 x shapeCasts_S1024_S16x1x64 (ix3 n 0 q) = x (ix1 ⟨n.val * 64 + q.val, by omega⟩) := by
  refine shapeCast_apply _ shapeCasts_S1024_S16x1x64 (ix3 n 0 q) (ix1 ⟨n.val * 64 + q.val, by omega⟩) ?_
  rw [Shape.rowMajor_val_one, Shape.rowMajor_val_three]
  show n.val * 64 + q.val = (n.val * 1 + 0) * 64 + q.val
  omega

end Host

section Arrays

variable (m : (ℓ : Loc nD τ sig) → Buf (Elt Ideal) ℓ) (c : Dev nD)

/-- The arrays the main region is entered with: the sampled cells, -/
theorem cells_eq : U2 m c main_v4 = transpose S16x8x512 [1, 0, 2] (shapeCast S8x16x512 (transpose S8x8192 [1, 0]
    (trunci 16 (m ((c : Thread nD τ).loc main_arg1) : IVec S8192x8 32) natLt_16_32) transposes_S8192x8_S8x8192_1_0) shapeCasts_S8x8192_S8x16x512) transposes_S8x16x512_S16x8x512_1_0_2 := by
  unfold U2
  after_results_simp
  rw [U1_in m c main_arg1 (by decide)]
  rfl

/-- the weights, -/
theorem weights_eq : U2 m c main_v8 = transpose S16x8x512 [1, 0, 2] (shapeCast S8x16x512 (transpose S8x8192 [1, 0]
    (truncf (F := Ideal) (s := S8192x8) (φ := .f32) .bf16 (m ((c : Thread nD τ).loc main_arg2)) bitsLt_bf16_f32) transposes_S8192x8_S8x8192_1_0) shapeCasts_S8x8192_S8x16x512) transposes_S8x16x512_S16x8x512_1_0_2 := by
  unfold U2
  after_results_simp
  rw [U1_in m c main_arg2 (by decide)]
  rfl

/-- the dendrites' biases, -/
theorem biases_eq : U2 m c main_v9 = shapeCast S16x1x512 (m ((c : Thread nD τ).loc main_arg3) : Vec Ideal S8192 .f32) shapeCasts_S8192_S16x1x512 := by
  unfold U2
  after_results_simp
  rw [U1_in m c main_arg3 (by decide)]
  rfl

/-- the cable weights, -/
theorem cables_eq : U2 m c main_v10 = shapeCast S16x1x512 (m ((c : Thread nD τ).loc main_arg4) : Vec Ideal S1024x8 .f32) shapeCasts_S1024x8_S16x1x512 := by
  unfold U2
  after_results_simp
  rw [U1_in m c main_arg4 (by decide)]
  rfl

/-- the somas' biases -/
theorem somas_eq : U2 m c main_v11 = shapeCast S16x1x64 (m ((c : Thread nD τ).loc main_arg5) : Vec Ideal S1024 .f32) shapeCasts_S1024_S16x1x64 := by
  unfold U2
  after_results_simp
  rw [U1_in m c main_arg5 (by decide)]
  rfl

/-- and the inputs. -/
theorem inputs_eq : U2 m c main_v0 = (m ((c : Thread nD τ).loc main_arg0) : Vec Ideal S2048x4096 .f32) := by
  unfold U2
  after_results_simp
  rw [U1_cast m c]
  rfl

end Arrays

/-! ## The windows' places -/

theorem index1_0 : ∀ t : Fin grid1.N, win1_0.index t 0 = min t.val 15 ∧ win1_0.index t 1 = 0 ∧ win1_0.index t 2 = 0 := by decide +kernel
theorem index1_1 : ∀ t : Fin grid1.N, win1_1.index t 0 = min t.val 15 ∧ win1_1.index t 1 = 0 ∧ win1_1.index t 2 = 0 := by decide +kernel
theorem index1_2 : ∀ t : Fin grid1.N, win1_2.index t 0 = t.val - 1 ∧ win1_2.index t 1 = 0 ∧ win1_2.index t 2 = 0 := by decide +kernel
theorem index1_3 : ∀ t : Fin grid1.N, win1_3.index t 0 = t.val - 1 ∧ win1_3.index t 1 = 0 ∧ win1_3.index t 2 = 0 := by decide +kernel
theorem index1_4 : ∀ t : Fin grid1.N, win1_4.index t 0 = t.val - 1 ∧ win1_4.index t 1 = 0 ∧ win1_4.index t 2 = 0 := by decide +kernel
theorem index1_5 : ∀ t : Fin grid1.N, win1_5.index t 0 = 0 ∧ win1_5.index t 1 = 0 := by decide +kernel

/-- The point that computes tile `n`, -/
abbrev pt (n : Fin 16) : Fin cfg1.N := ⟨n.val + 1, lt17 (by omega)⟩

/-- A coordinate in a block's array: the block's number times the block's size and the place in the block. -/
theorem place {i k q y e : ℕ} (h : e = i * k + y) (hi : i = q) : e = q * k + y := hi ▸ h

section Blocks

variable (V : Dev nD → Valuation τ sig (Elt Ideal)) (c : Dev nD) (n : Fin 16)

/-- The cells block of the point before tile `n`'s is tile `n`, -/
theorem block_cells (s : Fin 8) (d : Fin 512) : iblk V c 0 (prev (pt n)) (ix3 0 s d) = V c main_v4 (ix3 n s d) := by
  obtain ⟨e0, e1, e2⟩ := index1_0 (prev (pt n))
  unfold iblk
  rw [View.read_apply]
  refine congrArg (V c main_v4) (funext fun a => Fin.ext ?_)
  match a with
  | 0 => exact (place (win1_0.rect_emb_val (prev (pt n)) (ix3 0 s d) 0) e0).trans (by show min (n.val + 1 - 1) 15 * 1 + 0 = n.val; omega)
  | 1 => exact (place (win1_0.rect_emb_val (prev (pt n)) (ix3 0 s d) 1) e1).trans (by show 0 * 8 + s.val = s.val; omega)
  | 2 => exact (place (win1_0.rect_emb_val (prev (pt n)) (ix3 0 s d) 2) e2).trans (by show 0 * 512 + d.val = d.val; omega)

/-- so is the weights block, -/
theorem block_weights (s : Fin 8) (d : Fin 512) : iblk V c 1 (prev (pt n)) (ix3 0 s d) = V c main_v8 (ix3 n s d) := by
  obtain ⟨e0, e1, e2⟩ := index1_1 (prev (pt n))
  unfold iblk
  rw [View.read_apply]
  refine congrArg (V c main_v8) (funext fun a => Fin.ext ?_)
  match a with
  | 0 => exact (place (win1_1.rect_emb_val (prev (pt n)) (ix3 0 s d) 0) e0).trans (by show min (n.val + 1 - 1) 15 * 1 + 0 = n.val; omega)
  | 1 => exact (place (win1_1.rect_emb_val (prev (pt n)) (ix3 0 s d) 1) e1).trans (by show 0 * 8 + s.val = s.val; omega)
  | 2 => exact (place (win1_1.rect_emb_val (prev (pt n)) (ix3 0 s d) 2) e2).trans (by show 0 * 512 + d.val = d.val; omega)

/-- and at tile `n`'s point the blocks of biases, -/
theorem block_biases (d : Fin 512) : iblk V c 2 (pt n) (ix3 0 0 d) = V c main_v9 (ix3 n 0 d) := by
  obtain ⟨e0, e1, e2⟩ := index1_2 (pt n)
  unfold iblk
  rw [View.read_apply]
  refine congrArg (V c main_v9) (funext fun a => Fin.ext ?_)
  match a with
  | 0 => exact (place (win1_2.rect_emb_val (pt n) (ix3 0 0 d) 0) e0).trans (by show (n.val + 1 - 1) * 1 + 0 = n.val; omega)
  | 1 => exact (place (win1_2.rect_emb_val (pt n) (ix3 0 0 d) 1) e1)
  | 2 => exact (place (win1_2.rect_emb_val (pt n) (ix3 0 0 d) 2) e2).trans (by show 0 * 512 + d.val = d.val; omega)

/-- of cable weights -/
theorem block_cables (d : Fin 512) : iblk V c 3 (pt n) (ix3 0 0 d) = V c main_v10 (ix3 n 0 d) := by
  obtain ⟨e0, e1, e2⟩ := index1_3 (pt n)
  unfold iblk
  rw [View.read_apply]
  refine congrArg (V c main_v10) (funext fun a => Fin.ext ?_)
  match a with
  | 0 => exact (place (win1_3.rect_emb_val (pt n) (ix3 0 0 d) 0) e0).trans (by show (n.val + 1 - 1) * 1 + 0 = n.val; omega)
  | 1 => exact (place (win1_3.rect_emb_val (pt n) (ix3 0 0 d) 1) e1)
  | 2 => exact (place (win1_3.rect_emb_val (pt n) (ix3 0 0 d) 2) e2).trans (by show 0 * 512 + d.val = d.val; omega)

/-- and of the somas' biases. -/
theorem block_somas (q : Fin 64) : iblk V c 4 (pt n) (ix3 0 0 q) = V c main_v11 (ix3 n 0 q) := by
  obtain ⟨e0, e1, e2⟩ := index1_4 (pt n)
  unfold iblk
  rw [View.read_apply]
  refine congrArg (V c main_v11) (funext fun a => Fin.ext ?_)
  match a with
  | 0 => exact (place (win1_4.rect_emb_val (pt n) (ix3 0 0 q) 0) e0).trans (by show (n.val + 1 - 1) * 1 + 0 = n.val; omega)
  | 1 => exact (place (win1_4.rect_emb_val (pt n) (ix3 0 0 q) 1) e1)
  | 2 => exact (place (win1_4.rect_emb_val (pt n) (ix3 0 0 q) 2) e2).trans (by show 0 * 64 + q.val = q.val; omega)

/-- The inputs block is the whole array at every point. -/
theorem block_inputs (t : Fin cfg1.N) (b : Fin 2048) (i : Fin 4096) : iblk V c 5 t (ix2 b i) = V c main_v0 (ix2 b i) := by
  obtain ⟨e0, e1⟩ := index1_5 t
  unfold iblk
  rw [View.read_apply]
  refine congrArg (V c main_v0) (funext fun a => Fin.ext ?_)
  match a with
  | 0 => exact (place (win1_5.rect_emb_val t (ix2 b i) 0) e0).trans (by show 0 * 2048 + b.val = b.val; omega)
  | 1 => exact (place (win1_5.rect_emb_val t (ix2 b i) 1) e1).trans (by show 0 * 4096 + i.val = i.val; omega)

end Blocks

end Cert.Dend

end
-- ==== Proof.Values.lean ====
module

public import proofs.«01_k».proof.Proof.Reads

@[expose] public section

set_option maxRecDepth 16384

noncomputable section

namespace Cert.Dend

open Cert.KernelIdeal Cert.KernelIdeal.Gen
open Idealize.ShloMosaic Idealize.ShloMosaic.TcCoe Idealize.ShloMosaic.Tactic
open Idealize.ShloMosaic.ValueIdx (ix1 ix2 ix3)

/-! ## The two result arrays, by the program's arguments -/

/-- A cell's word narrowed to sixteen bits is the word of a row number exactly when the cell is that row. -/
theorem narrow_iff (a : BitVec 32) (i : Fin 4096) (h : a.toNat < 4096) : a.setWidth 16 = BitVec.ofNat 16 i.val ↔ a.toNat = i.val := by
  constructor
  · intro q
    have := congrArg BitVec.toNat q
    rw [BitVec.toNat_setWidth, BitVec.toNat_ofNat, Nat.mod_eq_of_lt (by omega), Nat.mod_eq_of_lt (by omega)] at this
    exact this
  · intro q
    refine BitVec.eq_of_toNat_eq ?_
    rw [BitVec.toNat_setWidth, BitVec.toNat_ofNat, q]

variable (m : (ℓ : Loc nD τ sig) → Buf (Elt Ideal) ℓ) (c : Dev nD)

/-- The program's arguments as matrices and vectors. -/
abbrev argX : Mat EReal 2048 4096 := m ((c : Thread nD τ).loc main_arg0)
abbrev argI : Mat (BitVec 32) 8192 8 := m ((c : Thread nD τ).loc main_arg1)
abbrev argW : Mat EReal 8192 8 := m ((c : Thread nD τ).loc main_arg2)
abbrev argB : Row EReal 8192 := m ((c : Thread nD τ).loc main_arg3)
abbrev argC : Mat EReal 1024 8 := m ((c : Thread nD τ).loc main_arg4)
abbrev argS : Row EReal 1024 := m ((c : Thread nD τ).loc main_arg5)

variable (h : Fit (argX m c) (argI m c) (argW m c)) (n : Fin 16)

include h in
/-- The matrix prepared for tile `n`: column `d` holds, at each input cell, the weights of the samples of that cell. -/
theorem mat_apply (i : Fin 4096) (d : Fin 512) :
    mat (U2 m) c (prev (pt n)) (ix3 0 i d) = ∑ s : Fin 8, if cell (argI m c) (col n d) s = i then argW m c (ix2 (col n d) s) else 0 := by
  unfold mat
  rw [fronted, matOf_apply]
  refine Finset.sum_congr rfl fun s _ => ?_
  have hI : iblk (U2 m) c 0 (prev (pt n)) (ix3 0 s d) = (argI m c (ix2 (col n d) s)).setWidth 16 := by
    rw [block_cells, cells_eq]
    exact tiled _ n s d
  have hW : iblk (U2 m) c 1 (prev (pt n)) (ix3 0 s d) = argW m c (ix2 (col n d) s) := by
    rw [block_weights, weights_eq]
    exact tiled _ n s d
  rw [hI, hW]
  refine if_congr ?_ rfl rfl
  rw [narrow_iff _ _ (h.cells _ _), ← cell_val h.cells, Fin.ext_iff]

include h in
/-- The dendrite block of tile `n`. -/
theorem den_apply (b : Fin 2048) (d : Fin 512) : den (U2 m) c (pt n) (ix2 b d) = act (argX m c) (argI m c) (argW m c) (argB m c) b (col n d) := by
  unfold den
  rw [pay2_apply]
  unfold act
  refine congrArg leaky (congrArg₂ (· + ·) ?_ ?_)
  · refine Eq.trans (Finset.sum_congr rfl fun i _ => congrArg₂ (· * ·) (?_ : _ = argX m c (ix2 b i)) (mat_apply m c h n i d)) ?_
    · rw [block_inputs, inputs_eq]
    · exact gather (fun i => argX m c (ix2 b i)) (fun s => argW m c (ix2 (col n d) s)) (cell (argI m c) (col n d)) (h.inputs b) (h.weights _)
  · rw [block_biases, biases_eq]
    exact tiled_bias _ n d

include h in
/-- The soma block of tile `n`. -/
theorem soma_apply (b : Fin 2048) (q : Fin 64) :
    soma (U2 m) c (pt n) (ix2 b q) = fire (argX m c) (argI m c) (argW m c) (argB m c) (argC m c) (argS m c) b ⟨n.val * 64 + q.val, by omega⟩ := by
  unfold soma
  rw [somaOf_apply]
  unfold fire
  refine congrArg leaky (congrArg₂ (· + ·) (Finset.sum_congr rfl fun r _ => congrArg₂ (· * ·) ?_ ?_) ?_)
  · rw [den_apply m c h]
    refine congrArg (act _ _ _ _ b) (Fin.ext ?_)
    show n.val * 512 + (q.val * 8 + r.val) = (n.val * 64 + q.val) * 8 + r.val
    omega
  · rw [block_cables, cables_eq]
    exact tiled_cable _ n q r
  · rw [block_somas, somas_eq]
    exact tiled_soma _ n q

include h in
/-- The dendrite array holds every dendrite's activation. -/
theorem dend_apply (b : Fin 2048) (k : Fin 8192) : dend (U2 m) c (ix2 b k) = act (argX m c) (argI m c) (argW m c) (argB m c) b k := by
  refine (den_apply m c h ⟨k.val / 512, by omega⟩ b ⟨k.val % 512, Nat.mod_lt _ (by decide)⟩).trans ?_
  refine congrArg (act _ _ _ _ b) (Fin.ext ?_)
  show k.val / 512 * 512 + k.val % 512 = k.val
  omega

include h in
/-- The soma array holds every soma's activation. -/
theorem somata_apply (b : Fin 2048) (k : Fin 1024) :
    somata (U2 m) c (ix2 b k) = fire (argX m c) (argI m c) (argW m c) (argB m c) (argC m c) (argS m c) b k := by
  refine (soma_apply m c h ⟨k.val / 64, by omega⟩ b ⟨k.val % 64, Nat.mod_lt _ (by decide)⟩).trans ?_
  refine congrArg (fire _ _ _ _ _ _ b) (Fin.ext ?_)
  show k.val / 64 * 64 + k.val % 64 = k.val
  omega

/-- At the end the soma result is the soma array, -/
theorem U4_soma : U4 m c main_v12_1 = somata (U2 m) c := by
  unfold U4
  after_results_simp
  exact U3_soma m c

/-- and the dendrite result the dendrite array with its columns split by soma. -/
theorem U4_dend : U4 m c main_v13 = shapeCast S2048x1024x8 (dend (U2 m) c : Vec Ideal S2048x8192 .f32) shapeCasts_S2048x8192_S2048x1024x8 := by
  unfold U4
  after_results_simp
  rw [U3_dend m c]
  rfl

/-- The split at an index. -/
theorem split_apply {α : Type} (x : S2048x8192.Idx → α) (b : Fin 2048) (k : Fin 1024) (r : Fin 8) :
    shapeCast S2048x1024x8 x shapeCasts_S2048x8192_S2048x1024x8 (ix3 b k r) = x (ix2 b (branch k r)) := by
  refine shapeCast_apply _ shapeCasts_S2048x8192_S2048x1024x8 (ix3 b k r) (ix2 b (branch k r)) ?_
  rw [Shape.rowMajor_val_two, Shape.rowMajor_val_three]
  show b.val * 8192 + (k.val * 8 + r.val) = (b.val * 1024 + k.val) * 8 + r.val
  omega

end Cert.Dend

end
-- ==== Proof.Ref.lean ====
module

public import proofs.«01_k».proof.Proof.Spec
public import proofs.«01_k».proof.Proof.Gen.ReferenceIdeal.Read
public import Idealize.ShloMosaic.Lib.ValueIdx
public import Idealize.ShloMosaic.Lib.ReduceAll
public import Idealize.ShloMosaic.Lib.WordCmp

@[expose] public section

noncomputable section

namespace Cert.Dend

open Idealize.ShloMosaic
open Idealize.ShloMosaic.ValueIdx (ix1 ix2 ix3)
open Idealize.ShloMosaic.WordCmp (toInt_eq_toNat_of_lt_half)
open Cert.ReferenceIdeal Cert.ReferenceIdeal.Gen Cert.ReferenceIdeal.Read

/-! ## The reference, read at an index -/

section Take
variable {α : Type}

/-- The gather that samples columns: element `(b, d, s)` is the operand in row `b` at the column the start index names,
    read signed and clamped. -/
theorem sampled (x : Mat α 2048 4096) (idx : IVec S8192x8x1 32) (b : Fin 2048) (d : Fin 8192) (s : Fin 8) :
    Host.gather gather_S2048x4096_S8192x8x1_S2048x8192x8_0_1_n_n_1_2_20481 x idx (ix3 b d s)
      = x (ix2 b ⟨min (idx (ix3 d s (0 : Fin 1))).toInt.toNat 4095, by omega⟩) := by
  unfold Host.gather
  congr 1
  funext a
  refine Fin.ext ?_
  show GatherDims.start _ (ix3 b d s) idx a + GatherDims.batchCoord _ (ix3 b d s) a + GatherDims.offCoord _ (ix3 b d s) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · have e : GatherDims.start gather_S2048x4096_S8192x8x1_S2048x8192x8_0_1_n_n_1_2_20481 (ix3 b d s) idx 0 = 0 := by
      unfold GatherDims.start
      rw [dif_neg (by decide)]
    rw [e, Nat.zero_add]
    rfl
  · rw [GatherDims.offCoord_eq_zero _ _ _ (fun h => ((GatherDims.mem_sKept _ _).mp h).1 (List.mem_singleton.mpr rfl)),
      Nat.add_zero]
    unfold GatherDims.start
    rw [dif_pos (show (1 : Fin 2) ∈ gather_S2048x4096_S8192x8x1_S2048x8192x8_0_1_n_n_1_2_20481.startIndexMap from
      List.mem_singleton.mpr rfl)]
    have e : GatherDims.siIdx gather_S2048x4096_S8192x8x1_S2048x8192x8_0_1_n_n_1_2_20481 (ix3 b d s)
        ⟨List.idxOf (1 : Fin 2) [1], List.idxOf_lt_length_iff.2 (List.mem_singleton.mpr rfl)⟩ = ix3 d s (0 : Fin 1) := by
      funext k; refine Fin.ext ?_
      match k with
      | ⟨0, _⟩ => rfl
      | ⟨1, _⟩ => rfl
      | ⟨2, _⟩ => rfl
    rw [show ∀ h, GatherDims.siIdx gather_S2048x4096_S8192x8x1_S2048x8192x8_0_1_n_n_1_2_20481 (ix3 b d s)
        ⟨List.idxOf (1 : Fin 2) gather_S2048x4096_S8192x8x1_S2048x8192x8_0_1_n_n_1_2_20481.startIndexMap, h⟩
        = ix3 d s (0 : Fin 1) from fun _ => e]
    rfl

end Take

variable (X : Mat EReal 2048 4096) (I : Mat (BitVec 32) 8192 8) (W : Mat EReal 8192 8) (B : Row EReal 8192)
  (C : Mat EReal 1024 8) (S : Row EReal 1024)

variable {I} in
/-- An index below 4096 is not negative, so it is taken as it stands. -/
theorem wrapped (hI : ∀ d s, (I (ix2 d s)).toNat < 4096) (d : Fin 8192) (s : Fin 8) :
    val_main_call0_v5 (F := Ideal) I (ix3 d s (0 : Fin 1)) = I (ix2 d s) := by
  have e : idx_main_call0_v5 (ix3 d s (0 : Fin 1)) = ix2 d s := by
    funext k
    match k with
    | ⟨0, _⟩ => rfl
    | ⟨1, _⟩ => rfl
  have h := hI d s
  have hn : ¬ (IntOp.cmpi .slt (I (ix2 d s)) 0#32 = 1#1) := by
    rw [IntOp.cmpi_slt, toInt_eq_toNat_of_lt_half (x := I (ix2 d s)) (by omega)]
    simp
  rw [val_main_call0_v5_apply, e, val_main_call0_v4_apply, val_main_call0_v1_apply, val_main_call0_v0_apply,
    val_main_call0_c_apply]
  unfold Scalar.select
  exact if_neg hn

variable {I} in
/-- An index below 4096 passes the bounds test. -/
theorem bounded (hI : ∀ d s, (I (ix2 d s)).toNat < 4096) (d : Fin 8192) (s : Fin 8) :
    val_main_call0_v12 (F := Ideal) I (ix2 d s) = 1#1 := by
  refine Host.reduce_andi_one _ _ _ _ _ rfl fun i => ?_
  obtain ⟨d, s, rfl⟩ : ∃ (d : Fin 8192) (s : Fin 8), i = ix3 d s (0 : Fin 1) := by
    refine ⟨i 0, i 1, ?_⟩
    funext k
    match k with
    | ⟨0, _⟩ => rfl
    | ⟨1, _⟩ => rfl
    | ⟨2, _⟩ => exact Subsingleton.elim (α := Fin 1) _ _
  have h := hI d s
  rw [val_main_call0_v11_apply, IntOp.andi_eq_one, val_main_call0_v7_apply, val_main_call0_v10_apply, wrapped hI,
    val_main_call0_v6_apply, val_main_call0_c_2_apply, val_main_call0_v9_apply, val_main_call0_v8_apply,
    val_main_call0_c_1_apply, IntOp.cmpi_sge, IntOp.cmpi_sle, toInt_eq_toNat_of_lt_half (x := I (ix2 d s)) (by omega)]
  constructor
  · simp
  · show _ ≤ ((4095 : Nat) : Int)
    omega

variable {I} in
/-- The sampled inputs. -/
theorem taken (hI : ∀ d s, (I (ix2 d s)).toNat < 4096) (b : Fin 2048) (d : Fin 8192) (s : Fin 8) :
    val_main_v0 (F := Ideal) X I (ix3 b d s) = X (ix2 b (cell I d s)) := by
  have e : idx_main_call0_v14 (ix3 b d s) = ix2 d s := by
    funext k
    match k with
    | ⟨0, _⟩ => rfl
    | ⟨1, _⟩ => rfl
  have h := hI d s
  rw [val_main_v0_apply, val_main_call0_v14_apply, e, bounded hI]
  show val_main_call0_v13 (F := Ideal) X I (ix3 b d s) = _
  unfold val_main_call0_v13
  rw [sampled]
  refine congrArg (fun k => X (ix2 b k)) (Fin.ext ?_)
  show min (val_main_call0_v5 (F := Ideal) I (ix3 d s (0 : Fin 1))).toInt.toNat 4095 = min _ _
  rw [wrapped hI, toInt_eq_toNat_of_lt_half (x := I (ix2 d s)) (by omega), Int.toNat_natCast]

/-- The zero word is zero. -/
theorem word_zero : FloatOps.ofBits (F := Ideal) .f32 0x00000000#32 = (0 : EReal) := Ideal.ofBits_zero_f32

/-- A sum onto zero, plus a term. -/
theorem sum_plus (u v : EReal) : FloatOps.addf (F := Ideal) (φ := .f32) ((0 : EReal) + u) v = u + v := by
  rw [zero_add]
  rfl

/-- Choosing between a value and its scaled copy by its sign is the leaky rectifier. -/
theorem select_leaky (v : EReal) :
    Scalar.select (FloatOps.cmpf (F := Ideal) (φ := .f32) .oge v (0 : EReal)) v (slope * v) = leaky v := by
  unfold leaky
  by_cases h : 0 ≤ v <;> simp [Scalar.select, FloatOps.cmpf, Ideal.cmp, h]

variable {I} in
/-- The dendrites' activations. -/
theorem ref_act (hI : ∀ d s, (I (ix2 d s)).toNat < 4096) (b : Fin 2048) (d : Fin 8192) :
    val_main_v12 (F := Ideal) X I W B (ix2 b d) = act X I W B b d := by
  have e7 : val_main_v7 (F := Ideal) X I W B (ix2 b d)
      = (∑ s : Fin 8, X (ix2 b (cell I d s)) * W (ix2 d s)) + B (ix1 d) := by
    rw [val_main_v7_apply, val_main_v4_apply, val_main_v6_apply, val_main_v5_apply]
    rw [val_main_cst_apply, word_zero]
    refine (sum_plus _ _).trans ?_
    refine congrArg₂ (fun u v : EReal => u + v) ?_ ?_
    · refine Finset.sum_congr rfl fun s _ => ?_
      rw [show idx_main_v4 (ix2 b d) s = ix3 b d s from by
        funext k
        match k with
        | ⟨0, _⟩ => rfl
        | ⟨1, _⟩ => rfl
        | ⟨2, _⟩ => rfl]
      rw [val_main_v3_apply, taken X hI, val_main_v2_apply, val_main_v1_apply]
      refine congrArg (fun k => X (ix2 b (cell I d s)) * W k) ?_
      funext k
      match k with
      | ⟨0, _⟩ => rfl
      | ⟨1, _⟩ => rfl
    · refine congrArg B ?_
      funext k
      match k with
      | ⟨0, _⟩ => rfl
  rw [val_main_v12_apply, val_main_v9_apply, val_main_v11_apply, val_main_v10_apply, val_main_v8_apply,
    val_main_cst_0_apply, val_main_cst_1_apply, e7]
  rw [word_zero]
  exact select_leaky _

variable {I} in
/-- The first result, the somas' activations. -/
theorem ref_fire (hI : ∀ d s, (I (ix2 d s)).toNat < 4096) (b : Fin 2048) (m : Fin 1024) :
    val_main_v25 (F := Ideal) X I W B C S (ix2 b m) = fire X I W B C S b m := by
  have e20 : val_main_v20 (F := Ideal) X I W B C S (ix2 b m)
      = (∑ r : Fin 8, act X I W B b (branch m r) * C (ix2 m r)) + S (ix1 m) := by
    rw [val_main_v20_apply, val_main_v17_apply, val_main_v19_apply, val_main_v18_apply]
    rw [val_main_cst_2_apply, word_zero]
    refine (sum_plus _ _).trans ?_
    refine congrArg₂ (fun u v : EReal => u + v) ?_ ?_
    · refine Finset.sum_congr rfl fun r _ => ?_
      rw [val_main_v16_apply, val_main_v13_apply, val_main_v15_apply, val_main_v14_apply]
      rw [show idx_main_v13 (idx_main_v17 (ix2 b m) r) = ix2 b (branch m r) from by
        have hb := b.isLt
        have hm := m.isLt
        have hr := r.isLt
        funext k
        match k with
        | ⟨0, _⟩ => exact Fin.ext (show ((b.val * 1024 + m.val) * 8 + r.val) / 8192 = b.val by omega)
        | ⟨1, _⟩ => exact Fin.ext (show ((b.val * 1024 + m.val) * 8 + r.val) % 8192 = m.val * 8 + r.val by omega)]
      rw [ref_act X W B hI]
      refine congrArg (fun k => act X I W B b (branch m r) * C k) ?_
      funext k
      match k with
      | ⟨0, _⟩ => rfl
      | ⟨1, _⟩ => rfl
    · refine congrArg S ?_
      funext k
      match k with
      | ⟨0, _⟩ => rfl
  rw [val_main_v25_apply, val_main_v22_apply, val_main_v24_apply, val_main_v23_apply, val_main_v21_apply,
    val_main_cst_3_apply, val_main_cst_4_apply, e20]
  rw [word_zero]
  exact select_leaky _

end Cert.Dend

end
-- ==== Proof.Results.lean ====
module

public import proofs.«01_k».proof.Defs
public import proofs.«01_k».proof.Proof.Values
public import proofs.«01_k».proof.Proof.Ref
public import proofs.«01_k».proof.Proof.Gen.Pre_admissible
public import Idealize.ShloMosaic.Lib.ReduceAll

@[expose] public section

set_option maxRecDepth 16384

noncomputable section

namespace Cert.Dend

open Idealize.ShloMosaic Idealize.ShloMosaic.TcCoe
open Idealize.ShloMosaic.ValueIdx (ix1 ix2 ix3)

/-! ## What the precondition says -/

/-- A magnitude below infinity is that of a finite value. -/
theorem finite_of (x : EReal) (e : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have top : Ideal.ofBits .f32 0x7F800000#32 = ⊤ := by simp [Ideal.ofBits, Ideal.ieee]
  replace e : Ideal.cmp .olt (max x (-x)) (Ideal.ofBits .f32 0x7F800000#32) = 1#1 := e
  rw [top] at e
  constructor
  · rintro rfl
    simp [Ideal.cmp] at e
  · rintro rfl
    simp [Ideal.cmp] at e

instance : Subsingleton Cert.Pre_admissible.S_.Idx := ⟨fun _ _ => funext fun a => a.elim0⟩

/-- The precondition says that every sampled cell exists and that inputs and weights are finite. -/
theorem fit_of (hP : Cert.Pre_admissible.Facts) (X : Mat EReal 2048 4096) (I : Mat (BitVec 32) 8192 8) (W : Mat EReal 8192 8) (B : Row EReal 8192) (C : Mat EReal 1024 8) (S : Row EReal 1024)
    (e : Cert.Pre_admissible.fn (F := Ideal) X I W B C S = fun _ => 1#1) : Fit X I W := by
  replace e := congrFun e (fun a => a.elim0)
  obtain ⟨e12, e3⟩ := IntOp.andi_eq_one.1 e
  obtain ⟨e1, e2⟩ := IntOp.andi_eq_one.1 e12
  refine ⟨fun d s => ?_, fun b i => finite_of _ (Host.reduce_andi_all _ _ _ _ _ e2 (ix2 b i)), fun d s => finite_of _ (Host.reduce_andi_all _ _ _ _ _ e3 (ix2 d s))⟩
  obtain ⟨l, u⟩ := IntOp.andi_eq_one.1 (Host.reduce_andi_all _ _ _ _ _ e1 (ix2 d s))
  have l := IntOp.cmpi_sge.1 l
  have u := IntOp.cmpi_slt.1 u
  replace l : (0 : Int) ≤ (I (ix2 d s)).toInt := l
  replace u : (I (ix2 d s)).toInt < 4096 := u
  have := (I (ix2 d s)).isLt
  rw [BitVec.toInt_eq_toNat_cond] at l u
  split at l <;> rename_i q
  · rw [if_pos q] at u
    omega
  · omega

/-! ## The two programs' results are equal -/

/-- The reference's second result: the activations of a soma's branches. -/
theorem ref_split (X : Mat EReal 2048 4096) {I : Mat (BitVec 32) 8192 8} (W : Mat EReal 8192 8) (B : Row EReal 8192) (h : ∀ d s, (I (ix2 d s)).toNat < 4096)
    (b : Fin 2048) (k : Fin 1024) (r : Fin 8) : Cert.ReferenceIdeal.Read.val_main_v13 (F := Ideal) X I W B (ix3 b k r) = act X I W B b (branch k r) := by
  rw [Cert.ReferenceIdeal.Read.val_main_v13_apply]
  refine (congrArg _ ?_).trans (ref_act X W B h b (branch k r))
  have hb := b.isLt
  have hk := k.isLt
  have hr := r.isLt
  funext a
  match a with
  | ⟨0, _⟩ => exact Fin.ext (show ((b.val * 1024 + k.val) * 8 + r.val) / 8192 = b.val by omega)
  | ⟨1, _⟩ => exact Fin.ext (show ((b.val * 1024 + k.val) * 8 + r.val) % 8192 = k.val * 8 + r.val by omega)

section Equal

variable (m : (ℓ : Loc Cert.KernelIdeal.nD Cert.KernelIdeal.τ Cert.KernelIdeal.sig) → Buf (Elt Ideal) ℓ) (c : Dev Cert.KernelIdeal.nD)
  (h : Fit (argX m c) (argI m c) (argW m c))

include h in
/-- The soma result is the reference's first value of the same arguments, -/
theorem soma_result : U4 m c (Proc.devRef .tc Cert.KernelIdeal.main_v12_1)
    = Cert.ReferenceIdeal.Read.val_main_v25 (F := Ideal) (argX m c) (argI m c) (argW m c) (argB m c) (argC m c) (argS m c) := by
  rw [U4_soma]
  refine funext fun (i : (⟨2, ![2048, 1024]⟩ : Shape).Idx) => ?_
  rw [ValueIdx.eq_ix2 i]
  exact (somata_apply m c h (i 0) (i 1)).trans (ref_fire _ _ _ _ _ h.cells (i 0) (i 1)).symm

include h in
/-- and the dendrite result is its second. -/
theorem dend_result : U4 m c (Proc.devRef .tc Cert.KernelIdeal.main_v13)
    = Cert.ReferenceIdeal.Read.val_main_v13 (F := Ideal) (argX m c) (argI m c) (argW m c) (argB m c) := by
  rw [U4_dend]
  refine funext fun (i : (⟨3, ![2048, 1024, 8]⟩ : Shape).Idx) => ?_
  rw [ValueIdx.eq_ix3 i]
  exact (split_apply _ (i 0) (i 1) (i 2)).trans ((dend_apply m c h (i 0) (branch (i 1) (i 2))).trans (ref_split _ _ _ h.cells (i 0) (i 1) (i 2)).symm)

end Equal

end Cert.Dend

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_admissible
public import proofs.«01_k».proof.Proof.Frames
public import proofs.«01_k».proof.Proof.Results
public import Idealize.ShloMosaic.Adequacy
public import Idealize.ShloMosaic.Init

@[expose] public section

noncomputable section

namespace Cert.Proof

open Idealize.ShloMosaic Idealize.SL.Sem Cert.Dend

/-- The reference leaves its arguments as they were and every counter at zero, which it has none of. -/
theorem frame_reference : Cert.quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Value.run (F := Ideal) m g)

/-- The kernel and the reference end with equal results wherever the precondition holds. -/
theorem values : Cert.algebraic_KernelIdeal_ReferenceIdeal_pre_admissible (hKernelIdeal := Cert.KernelIdeal.Gen.facts)
    (hReferenceIdeal := Cert.ReferenceIdeal.Gen.facts) (hPre_admissible := Cert.Pre_admissible.Gen.facts) := by
  intro m g m' g' hP hA
  have fit := fun c => fit_of Cert.Pre_admissible.Gen.facts (argX m c) (argI m c) (argW m c) (argB m c) (argC m c) (argS m c) (hP c)
  refine ⟨fun c => U4 m c (Proc.devRef .tc Cert.KernelIdeal.main_v12_1), fun c => U4 m c (Proc.devRef .tc Cert.KernelIdeal.main_v13), ?_, ?_⟩
  · refine (θ_run _ _ _).mono (fun r h c => ⟨h.1 c _ (by decide), h.1 c _ (by decide), ?_⟩) (run (F := Ideal) m g)
    exact args_kept m c r.2.mem (h.1 c)
  · refine (θ_run _ _ _).mono (fun r h c => ⟨(h c).1.trans ?_, (h c).2.1.trans ?_, (h c).2.2⟩) (Cert.ReferenceIdeal.Value.run (F := Ideal) m' g')
    · obtain ⟨a0, a1, a2, a3, a4, a5⟩ := hA c
      rw [Cert.ReferenceIdeal.Read.val_main_v25_eq, a0, a1, a2, a3, a4, a5]
      exact (soma_result m c (fit c)).symm
    · obtain ⟨a0, a1, a2, a3, a4, a5⟩ := hA c
      rw [Cert.ReferenceIdeal.Read.val_main_v13_eq, a0, a1, a2, a3]
      exact (dend_result m c (fit c)).symm

/-- Every claim of this certificate. -/
theorem claim : Cert.Claim := ⟨Cert.Kernel.Gen.facts, Cert.KernelIdeal.Gen.facts, Cert.ReferenceIdeal.Gen.facts, Cert.Pre_admissible.Gen.facts,
  frame_compiled, frame_ideal, fun m g _ => frame_ideal m g trivial, frame_reference, fun m g _ => frame_reference m g trivial, trivial, values⟩

end Cert.Proof

end
